-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![3072, 1536]⟩ ⟨2, ![3072, 6144]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1536, 3072]⟩ ⟨2, ![6144, 3072]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3072x1536 : Shape := ⟨2, ![3072, 1536]⟩
abbrev S1536x3072 : Shape := ⟨2, ![1536, 3072]⟩
abbrev S3072x3072 : Shape := ⟨2, ![3072, 3072]⟩
abbrev S2x384x1536 : Shape := ⟨3, ![2, 384, 1536]⟩
abbrev S2x1536x384 : Shape := ⟨3, ![2, 1536, 384]⟩
abbrev S2 : Shape := ⟨1, ![2]⟩
abbrev S12x768x384 : Shape := ⟨3, ![12, 768, 384]⟩
abbrev S12 : Shape := ⟨1, ![12]⟩
abbrev S_ : Shape := ⟨0, ![]⟩
abbrev S1 : Shape := ⟨1, ![1]⟩
abbrev S1x384x1536 : Shape := ⟨3, ![1, 384, 1536]⟩
abbrev S384x1536 : Shape := ⟨2, ![384, 1536]⟩
abbrev S1x1536x384 : Shape := ⟨3, ![1, 1536, 384]⟩
abbrev S1536x384 : Shape := ⟨2, ![1536, 384]⟩
abbrev S768x1536 : Shape := ⟨2, ![768, 1536]⟩
abbrev S768x384 : Shape := ⟨2, ![768, 384]⟩
abbrev S1x768x384 : Shape := ⟨3, ![1, 768, 384]⟩

abbrev nBuf : Space → Nat
  | .hbm => 3
  | .vmem => 7
  | .smem => 0
  | _ => 0

abbrev bufTy : (tb : Table) → Fin (tcTables nBuf tb) → BufTy
  | .hbm, ⟨0, _⟩ => ⟨S3072x1536, .f32⟩
  | .hbm, ⟨1, _⟩ => ⟨S1536x3072, .f32⟩
  | .hbm, ⟨2, _⟩ => ⟨S3072x3072, .bf16⟩
  | .local _ .vmem, ⟨0, _⟩ => ⟨S3072x3072, .bf16⟩
  | .local _ .vmem, ⟨1, _⟩ => ⟨S3072x1536, .bf16⟩
  | .local _ .vmem, ⟨2, _⟩ => ⟨S1536x3072, .bf16⟩
  | .local _ .vmem, ⟨3, _⟩ => ⟨S2x384x1536, .f32⟩
  | .local _ .vmem, ⟨4, _⟩ => ⟨S2x1536x384, .f32⟩
  | .local _ .vmem, ⟨5, _⟩ => ⟨S12x768x384, .bf16⟩
  | .local _ .vmem, ⟨6, _⟩ => ⟨S12x768x384, .bf16⟩
  | _, _ => ⟨S3072x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  (ofTc nBuf bufTy 1 101 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch6 : Ref sig .tc := ⟨.vmem, 5, rfl⟩
abbrev cc0_scratch7 : Ref sig .tc := ⟨.vmem, 6, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c3_i32 : BitVec 32) (c0_i32_25 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.addi v2 c3_i32
  let c4_i32_19 : BitVec 32 := 4#32
  let c0_i32_20 : BitVec 32 := 0#32
  let v31 : BitVec 1 := Scalar.cmpi .eq c4_i32_19 c0_i32_20
  let c1_i32_21 : BitVec 32 := 1#32
  let v32 : BitVec 32 := Scalar.select v31 c1_i32_21 c4_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c768_i32 : BitVec 32 := 768#32
  let v41 : BitVec 32 := Scalar.muli v40 c768_i32
  let v42 : BitVec 32 := Scalar.addi v41 c0_i32_25
  let c0_i32_30 : BitVec 32 := 0#32
  ![v42.toNat, 0]
def k0_off2 (d0 : Dev nD) (c3_i32 : BitVec 32) (c0_i32_64 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v30 : BitVec 32 := Scalar.addi v2 c3_i32
  let c4_i32_19 : BitVec 32 := 4#32
  let c0_i32_20 : BitVec 32 := 0#32
  let v31 : BitVec 1 := Scalar.cmpi .eq c4_i32_19 c0_i32_20
  let c1_i32_21 : BitVec 32 := 1#32
  let v32 : BitVec 32 := Scalar.select v31 c1_i32_21 c4_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c768_i32_63 : BitVec 32 := 768#32
  let v84 : BitVec 32 := Scalar.muli v40 c768_i32_63
  let v85 : BitVec 32 := Scalar.addi v84 c0_i32_64
  let v86 : Index := Scalar.indexCast v85
  let c0_65 : Index := 0#32
  ![v86.toNat, 0]
def k0_off3 (d0 : Dev nD) (c3_i32_135 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v172 : BitVec 32 := Scalar.addi v2 c3_i32_135
  let c4_i32_136 : BitVec 32 := 4#32
  let c0_i32_137 : BitVec 32 := 0#32
  let v173 : BitVec 1 := Scalar.cmpi .eq c4_i32_136 c0_i32_137
  let c1_i32_138 : BitVec 32 := 1#32
  let v174 : BitVec 32 := Scalar.select v173 c1_i32_138 c4_i32_136
  let v175 : BitVec 32 := Scalar.remsi v172 v174
  let c0_i32_140 : BitVec 32 := 0#32
  let v177 : BitVec 1 := Scalar.cmpi .slt v175 c0_i32_140
  let c0_i32_141 : BitVec 32 := 0#32
  let v178 : BitVec 1 := Scalar.cmpi .slt v174 c0_i32_141
  let v179 : BitVec 1 := Scalar.xori v177 v178
  let c0_i32_139 : BitVec 32 := 0#32
  let v176 : BitVec 1 := Scalar.cmpi .ne v175 c0_i32_139
  let v180 : BitVec 1 := Scalar.andi v179 v176
  let v181 : BitVec 32 := Scalar.addi v175 v174
  let v182 : BitVec 32 := Scalar.select v180 v181 v175
  let c768_i32_142 : BitVec 32 := 768#32
  let v183 : BitVec 32 := Scalar.muli v182 c768_i32_142
  let v184 : Index := Scalar.indexCast v183
  let c0_143 : Index := 0#32
  ![v184.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_135 : BitVec 32 := 3#32
  let v172 : BitVec 32 := Scalar.addi v2 c3_i32_135
  let c4_i32_136 : BitVec 32 := 4#32
  let c0_i32_137 : BitVec 32 := 0#32
  let v173 : BitVec 1 := Scalar.cmpi .eq c4_i32_136 c0_i32_137
  let c1_i32_138 : BitVec 32 := 1#32
  let v174 : BitVec 32 := Scalar.select v173 c1_i32_138 c4_i32_136
  let v175 : BitVec 32 := Scalar.remsi v172 v174
  let c0_i32_140 : BitVec 32 := 0#32
  let v177 : BitVec 1 := Scalar.cmpi .slt v175 c0_i32_140
  let c0_i32_141 : BitVec 32 := 0#32
  let v178 : BitVec 1 := Scalar.cmpi .slt v174 c0_i32_141
  let v179 : BitVec 1 := Scalar.xori v177 v178
  let c0_i32_139 : BitVec 32 := 0#32
  let v176 : BitVec 1 := Scalar.cmpi .ne v175 c0_i32_139
  let v180 : BitVec 1 := Scalar.andi v179 v176
  let v181 : BitVec 32 := Scalar.addi v175 v174
  let v182 : BitVec 32 := Scalar.select v180 v181 v175
  let c768_i32_146 : BitVec 32 := 768#32
  let v189 : BitVec 32 := Scalar.muli v182 c768_i32_146
  let v190 : Index := Scalar.indexCast v189
  let c0_147 : Index := 0#32
  ![v190.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_148 : BitVec 32 := 3#32
  let v192 : BitVec 32 := Scalar.addi v2 c3_i32_148
  let c4_i32_149 : BitVec 32 := 4#32
  let c0_i32_150 : BitVec 32 := 0#32
  let v193 : BitVec 1 := Scalar.cmpi .eq c4_i32_149 c0_i32_150
  let c1_i32_151 : BitVec 32 := 1#32
  let v194 : BitVec 32 := Scalar.select v193 c1_i32_151 c4_i32_149
  let v195 : BitVec 32 := Scalar.remsi v192 v194
  let c0_i32_153 : BitVec 32 := 0#32
  let v197 : BitVec 1 := Scalar.cmpi .slt v195 c0_i32_153
  let c0_i32_154 : BitVec 32 := 0#32
  let v198 : BitVec 1 := Scalar.cmpi .slt v194 c0_i32_154
  let v199 : BitVec 1 := Scalar.xori v197 v198
  let c0_i32_152 : BitVec 32 := 0#32
  let v196 : BitVec 1 := Scalar.cmpi .ne v195 c0_i32_152
  let v200 : BitVec 1 := Scalar.andi v199 v196
  let v201 : BitVec 32 := Scalar.addi v195 v194
  let v202 : BitVec 32 := Scalar.select v200 v201 v195
  let c768_i32_160 : BitVec 32 := 768#32
  let v209 : BitVec 32 := Scalar.muli v202 c768_i32_160
  let v210 : Index := Scalar.indexCast v209
  let c384_161 : Index := 384#32
  ![v210.toNat, 384]
def k0_off6 (d0 : Dev nD) (c0_i32_163 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_162 : BitVec 32 := 3#32
  let v212 : BitVec 32 := Scalar.addi v2 c3_i32_162
  let v213 : BitVec 32 := Scalar.subi v212 c0_i32_163
  let c4_i32_164 : BitVec 32 := 4#32
  let c0_i32_165 : BitVec 32 := 0#32
  let v214 : BitVec 1 := Scalar.cmpi .eq c4_i32_164 c0_i32_165
  let c1_i32_166 : BitVec 32 := 1#32
  let v215 : BitVec 32 := Scalar.select v214 c1_i32_166 c4_i32_164
  let v216 : BitVec 32 := Scalar.remsi v213 v215
  let c0_i32_168 : BitVec 32 := 0#32
  let v218 : BitVec 1 := Scalar.cmpi .slt v216 c0_i32_168
  let c0_i32_169 : BitVec 32 := 0#32
  let v219 : BitVec 1 := Scalar.cmpi .slt v215 c0_i32_169
  let v220 : BitVec 1 := Scalar.xori v218 v219
  let c0_i32_167 : BitVec 32 := 0#32
  let v217 : BitVec 1 := Scalar.cmpi .ne v216 c0_i32_167
  let v221 : BitVec 1 := Scalar.andi v220 v217
  let v222 : BitVec 32 := Scalar.addi v216 v215
  let v223 : BitVec 32 := Scalar.select v221 v222 v216
  let c768_i32_170 : BitVec 32 := 768#32
  let v224 : BitVec 32 := Scalar.muli v223 c768_i32_170
  let c0_i32_178 : BitVec 32 := 0#32
  ![v224.toNat, 0]
def k0_dev3 (d0 : Dev nD) : Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_174 : BitVec 32 := 1#32
  let v225 : BitVec 32 := Scalar.muli v24 c1_i32_174
  let v226 : BitVec 32 := Scalar.addi c0_i32_175 v225
  v226.toNat
def k0_off7 (d0 : Dev nD) (c0_i32_180 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_179 : BitVec 32 := 3#32
  let v234 : BitVec 32 := Scalar.addi v2 c3_i32_179
  let v235 : BitVec 32 := Scalar.subi v234 c0_i32_180
  let c4_i32_181 : BitVec 32 := 4#32
  let c0_i32_182 : BitVec 32 := 0#32
  let v236 : BitVec 1 := Scalar.cmpi .eq c4_i32_181 c0_i32_182
  let c1_i32_183 : BitVec 32 := 1#32
  let v237 : BitVec 32 := Scalar.select v236 c1_i32_183 c4_i32_181
  let v238 : BitVec 32 := Scalar.remsi v235 v237
  let c0_i32_185 : BitVec 32 := 0#32
  let v240 : BitVec 1 := Scalar.cmpi .slt v238 c0_i32_185
  let c0_i32_186 : BitVec 32 := 0#32
  let v241 : BitVec 1 := Scalar.cmpi .slt v237 c0_i32_186
  let v242 : BitVec 1 := Scalar.xori v240 v241
  let c0_i32_184 : BitVec 32 := 0#32
  let v239 : BitVec 1 := Scalar.cmpi .ne v238 c0_i32_184
  let v243 : BitVec 1 := Scalar.andi v242 v239
  let v244 : BitVec 32 := Scalar.addi v238 v237
  let v245 : BitVec 32 := Scalar.select v243 v244 v238
  let c768_i32_187 : BitVec 32 := 768#32
  let v246 : BitVec 32 := Scalar.muli v245 c768_i32_187
  let c384_i32_195 : BitVec 32 := 384#32
  ![v246.toNat, 384]
def k0_dev4 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_191 : BitVec 32 := 1#32
  let v247 : BitVec 32 := Scalar.muli v24 c1_i32_191
  let v248 : BitVec 32 := Scalar.addi c0_i32_192 v247
  v248.toNat
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_249 : BitVec 32 := 1#32
  let v316 : BitVec 32 := Scalar.addi v2 c1_i32_249
  let c4_i32_250 : BitVec 32 := 4#32
  let c0_i32_251 : BitVec 32 := 0#32
  let v317 : BitVec 1 := Scalar.cmpi .eq c4_i32_250 c0_i32_251
  let c1_i32_252 : BitVec 32 := 1#32
  let v318 : BitVec 32 := Scalar.select v317 c1_i32_252 c4_i32_250
  let v319 : BitVec 32 := Scalar.remsi v316 v318
  let c0_i32_254 : BitVec 32 := 0#32
  let v321 : BitVec 1 := Scalar.cmpi .slt v319 c0_i32_254
  let c0_i32_255 : BitVec 32 := 0#32
  let v322 : BitVec 1 := Scalar.cmpi .slt v318 c0_i32_255
  let v323 : BitVec 1 := Scalar.xori v321 v322
  let c0_i32_253 : BitVec 32 := 0#32
  let v320 : BitVec 1 := Scalar.cmpi .ne v319 c0_i32_253
  let v324 : BitVec 1 := Scalar.andi v323 v320
  let v325 : BitVec 32 := Scalar.addi v319 v318
  let v326 : BitVec 32 := Scalar.select v324 v325 v319
  let c768_i32_261 : BitVec 32 := 768#32
  let v333 : BitVec 32 := Scalar.muli v326 c768_i32_261
  let v334 : Index := Scalar.indexCast v333
  let c1536_262 : Index := 1536#32
  ![v334.toNat, 1536]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_263 : BitVec 32 := 1#32
  let v336 : BitVec 32 := Scalar.addi v2 c1_i32_263
  let c4_i32_264 : BitVec 32 := 4#32
  let c0_i32_265 : BitVec 32 := 0#32
  let v337 : BitVec 1 := Scalar.cmpi .eq c4_i32_264 c0_i32_265
  let c1_i32_266 : BitVec 32 := 1#32
  let v338 : BitVec 32 := Scalar.select v337 c1_i32_266 c4_i32_264
  let v339 : BitVec 32 := Scalar.remsi v336 v338
  let c0_i32_268 : BitVec 32 := 0#32
  let v341 : BitVec 1 := Scalar.cmpi .slt v339 c0_i32_268
  let c0_i32_269 : BitVec 32 := 0#32
  let v342 : BitVec 1 := Scalar.cmpi .slt v338 c0_i32_269
  let v343 : BitVec 1 := Scalar.xori v341 v342
  let c0_i32_267 : BitVec 32 := 0#32
  let v340 : BitVec 1 := Scalar.cmpi .ne v339 c0_i32_267
  let v344 : BitVec 1 := Scalar.andi v343 v340
  let v345 : BitVec 32 := Scalar.addi v339 v338
  let v346 : BitVec 32 := Scalar.select v344 v345 v339
  let c768_i32_275 : BitVec 32 := 768#32
  let v353 : BitVec 32 := Scalar.muli v346 c768_i32_275
  let v354 : Index := Scalar.indexCast v353
  let c1920_276 : Index := 1920#32
  ![v354.toNat, 1920]
def k0_off10 (d0 : Dev nD) (c0_i32_278 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_277 : BitVec 32 := 3#32
  let v356 : BitVec 32 := Scalar.subi v2 c3_i32_277
  let v357 : BitVec 32 := Scalar.addi v356 c0_i32_278
  let c4_i32_279 : BitVec 32 := 4#32
  let c0_i32_280 : BitVec 32 := 0#32
  let v358 : BitVec 1 := Scalar.cmpi .eq c4_i32_279 c0_i32_280
  let c1_i32_281 : BitVec 32 := 1#32
  let v359 : BitVec 32 := Scalar.select v358 c1_i32_281 c4_i32_279
  let v360 : BitVec 32 := Scalar.remsi v357 v359
  let c0_i32_283 : BitVec 32 := 0#32
  let v362 : BitVec 1 := Scalar.cmpi .slt v360 c0_i32_283
  let c0_i32_284 : BitVec 32 := 0#32
  let v363 : BitVec 1 := Scalar.cmpi .slt v359 c0_i32_284
  let v364 : BitVec 1 := Scalar.xori v362 v363
  let c0_i32_282 : BitVec 32 := 0#32
  let v361 : BitVec 1 := Scalar.cmpi .ne v360 c0_i32_282
  let v365 : BitVec 1 := Scalar.andi v364 v361
  let v366 : BitVec 32 := Scalar.addi v360 v359
  let v367 : BitVec 32 := Scalar.select v365 v366 v360
  let c768_i32_285 : BitVec 32 := 768#32
  let v368 : BitVec 32 := Scalar.muli v367 c768_i32_285
  let c1536_i32_293 : BitVec 32 := 1536#32
  ![v368.toNat, 1536]
def k0_dev5 (d0 : Dev nD) : Nat :=
  let c0_i32_290 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_289 : BitVec 32 := 1#32
  let v369 : BitVec 32 := Scalar.muli v13 c1_i32_289
  let v370 : BitVec 32 := Scalar.addi c0_i32_290 v369
  v370.toNat
def k0_off11 (d0 : Dev nD) (c0_i32_295 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_294 : BitVec 32 := 3#32
  let v378 : BitVec 32 := Scalar.subi v2 c3_i32_294
  let v379 : BitVec 32 := Scalar.addi v378 c0_i32_295
  let c4_i32_296 : BitVec 32 := 4#32
  let c0_i32_297 : BitVec 32 := 0#32
  let v380 : BitVec 1 := Scalar.cmpi .eq c4_i32_296 c0_i32_297
  let c1_i32_298 : BitVec 32 := 1#32
  let v381 : BitVec 32 := Scalar.select v380 c1_i32_298 c4_i32_296
  let v382 : BitVec 32 := Scalar.remsi v379 v381
  let c0_i32_300 : BitVec 32 := 0#32
  let v384 : BitVec 1 := Scalar.cmpi .slt v382 c0_i32_300
  let c0_i32_301 : BitVec 32 := 0#32
  let v385 : BitVec 1 := Scalar.cmpi .slt v381 c0_i32_301
  let v386 : BitVec 1 := Scalar.xori v384 v385
  let c0_i32_299 : BitVec 32 := 0#32
  let v383 : BitVec 1 := Scalar.cmpi .ne v382 c0_i32_299
  let v387 : BitVec 1 := Scalar.andi v386 v383
  let v388 : BitVec 32 := Scalar.addi v382 v381
  let v389 : BitVec 32 := Scalar.select v387 v388 v382
  let c768_i32_302 : BitVec 32 := 768#32
  let v390 : BitVec 32 := Scalar.muli v389 c768_i32_302
  let c1920_i32_310 : BitVec 32 := 1920#32
  ![v390.toNat, 1920]
def k0_dev6 (d0 : Dev nD) : Nat :=
  let c0_i32_307 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_306 : BitVec 32 := 1#32
  let v391 : BitVec 32 := Scalar.muli v13 c1_i32_306
  let v392 : BitVec 32 := Scalar.addi c0_i32_307 v391
  v392.toNat
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_341 : BitVec 32 := 3#32
  let v432 : BitVec 32 := Scalar.addi v2 c3_i32_341
  let c4_i32_342 : BitVec 32 := 4#32
  let c0_i32_343 : BitVec 32 := 0#32
  let v433 : BitVec 1 := Scalar.cmpi .eq c4_i32_342 c0_i32_343
  let c1_i32_344 : BitVec 32 := 1#32
  let v434 : BitVec 32 := Scalar.select v433 c1_i32_344 c4_i32_342
  let v435 : BitVec 32 := Scalar.remsi v432 v434
  let c0_i32_346 : BitVec 32 := 0#32
  let v437 : BitVec 1 := Scalar.cmpi .slt v435 c0_i32_346
  let c0_i32_347 : BitVec 32 := 0#32
  let v438 : BitVec 1 := Scalar.cmpi .slt v434 c0_i32_347
  let v439 : BitVec 1 := Scalar.xori v437 v438
  let c0_i32_345 : BitVec 32 := 0#32
  let v436 : BitVec 1 := Scalar.cmpi .ne v435 c0_i32_345
  let v440 : BitVec 1 := Scalar.andi v439 v436
  let v441 : BitVec 32 := Scalar.addi v435 v434
  let v442 : BitVec 32 := Scalar.select v440 v441 v435
  let c768_i32_353 : BitVec 32 := 768#32
  let v449 : BitVec 32 := Scalar.muli v442 c768_i32_353
  let v450 : Index := Scalar.indexCast v449
  let c768_354 : Index := 768#32
  ![v450.toNat, 768]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_355 : BitVec 32 := 3#32
  let v452 : BitVec 32 := Scalar.addi v2 c3_i32_355
  let c4_i32_356 : BitVec 32 := 4#32
  let c0_i32_357 : BitVec 32 := 0#32
  let v453 : BitVec 1 := Scalar.cmpi .eq c4_i32_356 c0_i32_357
  let c1_i32_358 : BitVec 32 := 1#32
  let v454 : BitVec 32 := Scalar.select v453 c1_i32_358 c4_i32_356
  let v455 : BitVec 32 := Scalar.remsi v452 v454
  let c0_i32_360 : BitVec 32 := 0#32
  let v457 : BitVec 1 := Scalar.cmpi .slt v455 c0_i32_360
  let c0_i32_361 : BitVec 32 := 0#32
  let v458 : BitVec 1 := Scalar.cmpi .slt v454 c0_i32_361
  let v459 : BitVec 1 := Scalar.xori v457 v458
  let c0_i32_359 : BitVec 32 := 0#32
  let v456 : BitVec 1 := Scalar.cmpi .ne v455 c0_i32_359
  let v460 : BitVec 1 := Scalar.andi v459 v456
  let v461 : BitVec 32 := Scalar.addi v455 v454
  let v462 : BitVec 32 := Scalar.select v460 v461 v455
  let c768_i32_367 : BitVec 32 := 768#32
  let v469 : BitVec 32 := Scalar.muli v462 c768_i32_367
  let v470 : Index := Scalar.indexCast v469
  let c1152_368 : Index := 1152#32
  ![v470.toNat, 1152]
def k0_off14 (d0 : Dev nD) (c0_i32_370 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_369 : BitVec 32 := 3#32
  let v472 : BitVec 32 := Scalar.addi v2 c3_i32_369
  let v473 : BitVec 32 := Scalar.subi v472 c0_i32_370
  let c4_i32_371 : BitVec 32 := 4#32
  let c0_i32_372 : BitVec 32 := 0#32
  let v474 : BitVec 1 := Scalar.cmpi .eq c4_i32_371 c0_i32_372
  let c1_i32_373 : BitVec 32 := 1#32
  let v475 : BitVec 32 := Scalar.select v474 c1_i32_373 c4_i32_371
  let v476 : BitVec 32 := Scalar.remsi v473 v475
  let c0_i32_375 : BitVec 32 := 0#32
  let v478 : BitVec 1 := Scalar.cmpi .slt v476 c0_i32_375
  let c0_i32_376 : BitVec 32 := 0#32
  let v479 : BitVec 1 := Scalar.cmpi .slt v475 c0_i32_376
  let v480 : BitVec 1 := Scalar.xori v478 v479
  let c0_i32_374 : BitVec 32 := 0#32
  let v477 : BitVec 1 := Scalar.cmpi .ne v476 c0_i32_374
  let v481 : BitVec 1 := Scalar.andi v480 v477
  let v482 : BitVec 32 := Scalar.addi v476 v475
  let v483 : BitVec 32 := Scalar.select v481 v482 v476
  let c768_i32_377 : BitVec 32 := 768#32
  let v484 : BitVec 32 := Scalar.muli v483 c768_i32_377
  let c768_i32_385 : BitVec 32 := 768#32
  ![v484.toNat, 768]
def k0_dev7 (d0 : Dev nD) : Nat :=
  let c0_i32_382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_381 : BitVec 32 := 1#32
  let v485 : BitVec 32 := Scalar.muli v24 c1_i32_381
  let v486 : BitVec 32 := Scalar.addi c0_i32_382 v485
  v486.toNat
def k0_off15 (d0 : Dev nD) (c0_i32_387 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_386 : BitVec 32 := 3#32
  let v494 : BitVec 32 := Scalar.addi v2 c3_i32_386
  let v495 : BitVec 32 := Scalar.subi v494 c0_i32_387
  let c4_i32_388 : BitVec 32 := 4#32
  let c0_i32_389 : BitVec 32 := 0#32
  let v496 : BitVec 1 := Scalar.cmpi .eq c4_i32_388 c0_i32_389
  let c1_i32_390 : BitVec 32 := 1#32
  let v497 : BitVec 32 := Scalar.select v496 c1_i32_390 c4_i32_388
  let v498 : BitVec 32 := Scalar.remsi v495 v497
  let c0_i32_392 : BitVec 32 := 0#32
  let v500 : BitVec 1 := Scalar.cmpi .slt v498 c0_i32_392
  let c0_i32_393 : BitVec 32 := 0#32
  let v501 : BitVec 1 := Scalar.cmpi .slt v497 c0_i32_393
  let v502 : BitVec 1 := Scalar.xori v500 v501
  let c0_i32_391 : BitVec 32 := 0#32
  let v499 : BitVec 1 := Scalar.cmpi .ne v498 c0_i32_391
  let v503 : BitVec 1 := Scalar.andi v502 v499
  let v504 : BitVec 32 := Scalar.addi v498 v497
  let v505 : BitVec 32 := Scalar.select v503 v504 v498
  let c768_i32_394 : BitVec 32 := 768#32
  let v506 : BitVec 32 := Scalar.muli v505 c768_i32_394
  let c1152_i32_402 : BitVec 32 := 1152#32
  ![v506.toNat, 1152]
def k0_dev8 (d0 : Dev nD) : Nat :=
  let c0_i32_399 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_398 : BitVec 32 := 1#32
  let v507 : BitVec 32 := Scalar.muli v24 c1_i32_398
  let v508 : BitVec 32 := Scalar.addi c0_i32_399 v507
  v508.toNat
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_423 : BitVec 32 := 1#32
  let v538 : BitVec 32 := Scalar.addi v2 c1_i32_423
  let c4_i32_424 : BitVec 32 := 4#32
  let c0_i32_425 : BitVec 32 := 0#32
  let v539 : BitVec 1 := Scalar.cmpi .eq c4_i32_424 c0_i32_425
  let c1_i32_426 : BitVec 32 := 1#32
  let v540 : BitVec 32 := Scalar.select v539 c1_i32_426 c4_i32_424
  let v541 : BitVec 32 := Scalar.remsi v538 v540
  let c0_i32_428 : BitVec 32 := 0#32
  let v543 : BitVec 1 := Scalar.cmpi .slt v541 c0_i32_428
  let c0_i32_429 : BitVec 32 := 0#32
  let v544 : BitVec 1 := Scalar.cmpi .slt v540 c0_i32_429
  let v545 : BitVec 1 := Scalar.xori v543 v544
  let c0_i32_427 : BitVec 32 := 0#32
  let v542 : BitVec 1 := Scalar.cmpi .ne v541 c0_i32_427
  let v546 : BitVec 1 := Scalar.andi v545 v542
  let v547 : BitVec 32 := Scalar.addi v541 v540
  let v548 : BitVec 32 := Scalar.select v546 v547 v541
  let c768_i32_435 : BitVec 32 := 768#32
  let v555 : BitVec 32 := Scalar.muli v548 c768_i32_435
  let v556 : Index := Scalar.indexCast v555
  let c2304_436 : Index := 2304#32
  ![v556.toNat, 2304]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_437 : BitVec 32 := 1#32
  let v558 : BitVec 32 := Scalar.addi v2 c1_i32_437
  let c4_i32_438 : BitVec 32 := 4#32
  let c0_i32_439 : BitVec 32 := 0#32
  let v559 : BitVec 1 := Scalar.cmpi .eq c4_i32_438 c0_i32_439
  let c1_i32_440 : BitVec 32 := 1#32
  let v560 : BitVec 32 := Scalar.select v559 c1_i32_440 c4_i32_438
  let v561 : BitVec 32 := Scalar.remsi v558 v560
  let c0_i32_442 : BitVec 32 := 0#32
  let v563 : BitVec 1 := Scalar.cmpi .slt v561 c0_i32_442
  let c0_i32_443 : BitVec 32 := 0#32
  let v564 : BitVec 1 := Scalar.cmpi .slt v560 c0_i32_443
  let v565 : BitVec 1 := Scalar.xori v563 v564
  let c0_i32_441 : BitVec 32 := 0#32
  let v562 : BitVec 1 := Scalar.cmpi .ne v561 c0_i32_441
  let v566 : BitVec 1 := Scalar.andi v565 v562
  let v567 : BitVec 32 := Scalar.addi v561 v560
  let v568 : BitVec 32 := Scalar.select v566 v567 v561
  let c768_i32_449 : BitVec 32 := 768#32
  let v575 : BitVec 32 := Scalar.muli v568 c768_i32_449
  let v576 : Index := Scalar.indexCast v575
  let c2688_450 : Index := 2688#32
  ![v576.toNat, 2688]
def k0_off18 (d0 : Dev nD) (c0_i32_452 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_451 : BitVec 32 := 3#32
  let v578 : BitVec 32 := Scalar.subi v2 c3_i32_451
  let v579 : BitVec 32 := Scalar.addi v578 c0_i32_452
  let c4_i32_453 : BitVec 32 := 4#32
  let c0_i32_454 : BitVec 32 := 0#32
  let v580 : BitVec 1 := Scalar.cmpi .eq c4_i32_453 c0_i32_454
  let c1_i32_455 : BitVec 32 := 1#32
  let v581 : BitVec 32 := Scalar.select v580 c1_i32_455 c4_i32_453
  let v582 : BitVec 32 := Scalar.remsi v579 v581
  let c0_i32_457 : BitVec 32 := 0#32
  let v584 : BitVec 1 := Scalar.cmpi .slt v582 c0_i32_457
  let c0_i32_458 : BitVec 32 := 0#32
  let v585 : BitVec 1 := Scalar.cmpi .slt v581 c0_i32_458
  let v586 : BitVec 1 := Scalar.xori v584 v585
  let c0_i32_456 : BitVec 32 := 0#32
  let v583 : BitVec 1 := Scalar.cmpi .ne v582 c0_i32_456
  let v587 : BitVec 1 := Scalar.andi v586 v583
  let v588 : BitVec 32 := Scalar.addi v582 v581
  let v589 : BitVec 32 := Scalar.select v587 v588 v582
  let c768_i32_459 : BitVec 32 := 768#32
  let v590 : BitVec 32 := Scalar.muli v589 c768_i32_459
  let c2304_i32_467 : BitVec 32 := 2304#32
  ![v590.toNat, 2304]
def k0_dev9 (d0 : Dev nD) : Nat :=
  let c0_i32_464 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_463 : BitVec 32 := 1#32
  let v591 : BitVec 32 := Scalar.muli v13 c1_i32_463
  let v592 : BitVec 32 := Scalar.addi c0_i32_464 v591
  v592.toNat
def k0_off19 (d0 : Dev nD) (c0_i32_469 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_468 : BitVec 32 := 3#32
  let v600 : BitVec 32 := Scalar.subi v2 c3_i32_468
  let v601 : BitVec 32 := Scalar.addi v600 c0_i32_469
  let c4_i32_470 : BitVec 32 := 4#32
  let c0_i32_471 : BitVec 32 := 0#32
  let v602 : BitVec 1 := Scalar.cmpi .eq c4_i32_470 c0_i32_471
  let c1_i32_472 : BitVec 32 := 1#32
  let v603 : BitVec 32 := Scalar.select v602 c1_i32_472 c4_i32_470
  let v604 : BitVec 32 := Scalar.remsi v601 v603
  let c0_i32_474 : BitVec 32 := 0#32
  let v606 : BitVec 1 := Scalar.cmpi .slt v604 c0_i32_474
  let c0_i32_475 : BitVec 32 := 0#32
  let v607 : BitVec 1 := Scalar.cmpi .slt v603 c0_i32_475
  let v608 : BitVec 1 := Scalar.xori v606 v607
  let c0_i32_473 : BitVec 32 := 0#32
  let v605 : BitVec 1 := Scalar.cmpi .ne v604 c0_i32_473
  let v609 : BitVec 1 := Scalar.andi v608 v605
  let v610 : BitVec 32 := Scalar.addi v604 v603
  let v611 : BitVec 32 := Scalar.select v609 v610 v604
  let c768_i32_476 : BitVec 32 := 768#32
  let v612 : BitVec 32 := Scalar.muli v611 c768_i32_476
  let c2688_i32_484 : BitVec 32 := 2688#32
  ![v612.toNat, 2688]
def k0_dev10 (d0 : Dev nD) : Nat :=
  let c0_i32_481 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_480 : BitVec 32 := 1#32
  let v613 : BitVec 32 := Scalar.muli v13 c1_i32_480
  let v614 : BitVec 32 := Scalar.addi c0_i32_481 v613
  v614.toNat
def k0_off20 (d0 : Dev nD) (c0_i32_529 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_528 : BitVec 32 := 768#32
  let v675 : BitVec 32 := Scalar.muli v2 c768_i32_528
  let v676 : BitVec 32 := Scalar.addi v675 c0_i32_529
  let c0_i32_534 : BitVec 32 := 0#32
  ![v676.toNat, 0]
def k0_off21 (d0 : Dev nD) (c0_i32_551 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_550 : BitVec 32 := 768#32
  let v697 : BitVec 32 := Scalar.muli v2 c768_i32_550
  let v698 : BitVec 32 := Scalar.addi v697 c0_i32_551
  let v699 : Index := Scalar.indexCast v698
  let c0_552 : Index := 0#32
  ![v699.toNat, 0]
def k0_off22 (d0 : Dev nD) (c0_i32_565 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_564 : BitVec 32 := 2#32
  let v717 : BitVec 32 := Scalar.addi v2 c2_i32_564
  let v718 : BitVec 32 := Scalar.subi v717 c0_i32_565
  let c4_i32_566 : BitVec 32 := 4#32
  let c0_i32_567 : BitVec 32 := 0#32
  let v719 : BitVec 1 := Scalar.cmpi .eq c4_i32_566 c0_i32_567
  let c1_i32_568 : BitVec 32 := 1#32
  let v720 : BitVec 32 := Scalar.select v719 c1_i32_568 c4_i32_566
  let v721 : BitVec 32 := Scalar.remsi v718 v720
  let c0_i32_570 : BitVec 32 := 0#32
  let v723 : BitVec 1 := Scalar.cmpi .slt v721 c0_i32_570
  let c0_i32_571 : BitVec 32 := 0#32
  let v724 : BitVec 1 := Scalar.cmpi .slt v720 c0_i32_571
  let v725 : BitVec 1 := Scalar.xori v723 v724
  let c0_i32_569 : BitVec 32 := 0#32
  let v722 : BitVec 1 := Scalar.cmpi .ne v721 c0_i32_569
  let v726 : BitVec 1 := Scalar.andi v725 v722
  let v727 : BitVec 32 := Scalar.addi v721 v720
  let v728 : BitVec 32 := Scalar.select v726 v727 v721
  let c768_i32_580 : BitVec 32 := 768#32
  let v741 : BitVec 32 := Scalar.muli v728 c768_i32_580
  let v742 : Index := Scalar.indexCast v741
  let c0_581 : Index := 0#32
  ![v742.toNat, 0]
def k0_off23 (d0 : Dev nD) (c0_i32_565 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_564 : BitVec 32 := 2#32
  let v717 : BitVec 32 := Scalar.addi v2 c2_i32_564
  let v718 : BitVec 32 := Scalar.subi v717 c0_i32_565
  let c4_i32_566 : BitVec 32 := 4#32
  let c0_i32_567 : BitVec 32 := 0#32
  let v719 : BitVec 1 := Scalar.cmpi .eq c4_i32_566 c0_i32_567
  let c1_i32_568 : BitVec 32 := 1#32
  let v720 : BitVec 32 := Scalar.select v719 c1_i32_568 c4_i32_566
  let v721 : BitVec 32 := Scalar.remsi v718 v720
  let c0_i32_570 : BitVec 32 := 0#32
  let v723 : BitVec 1 := Scalar.cmpi .slt v721 c0_i32_570
  let c0_i32_571 : BitVec 32 := 0#32
  let v724 : BitVec 1 := Scalar.cmpi .slt v720 c0_i32_571
  let v725 : BitVec 1 := Scalar.xori v723 v724
  let c0_i32_569 : BitVec 32 := 0#32
  let v722 : BitVec 1 := Scalar.cmpi .ne v721 c0_i32_569
  let v726 : BitVec 1 := Scalar.andi v725 v722
  let v727 : BitVec 32 := Scalar.addi v721 v720
  let v728 : BitVec 32 := Scalar.select v726 v727 v721
  let c768_i32_585 : BitVec 32 := 768#32
  let v747 : BitVec 32 := Scalar.muli v728 c768_i32_585
  let v748 : Index := Scalar.indexCast v747
  let c0_586 : Index := 0#32
  ![v748.toNat, 0]
def k0_off24 (d0 : Dev nD) (c0_i32_573 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_572 : BitVec 32 := 2#32
  let v729 : BitVec 32 := Scalar.subi v2 c2_i32_572
  let v730 : BitVec 32 := Scalar.addi v729 c0_i32_573
  let c4_i32_574 : BitVec 32 := 4#32
  let c0_i32_575 : BitVec 32 := 0#32
  let v731 : BitVec 1 := Scalar.cmpi .eq c4_i32_574 c0_i32_575
  let c1_i32_576 : BitVec 32 := 1#32
  let v732 : BitVec 32 := Scalar.select v731 c1_i32_576 c4_i32_574
  let v733 : BitVec 32 := Scalar.remsi v730 v732
  let c0_i32_578 : BitVec 32 := 0#32
  let v735 : BitVec 1 := Scalar.cmpi .slt v733 c0_i32_578
  let c0_i32_579 : BitVec 32 := 0#32
  let v736 : BitVec 1 := Scalar.cmpi .slt v732 c0_i32_579
  let v737 : BitVec 1 := Scalar.xori v735 v736
  let c0_i32_577 : BitVec 32 := 0#32
  let v734 : BitVec 1 := Scalar.cmpi .ne v733 c0_i32_577
  let v738 : BitVec 1 := Scalar.andi v737 v734
  let v739 : BitVec 32 := Scalar.addi v733 v732
  let v740 : BitVec 32 := Scalar.select v738 v739 v733
  let c768_i32_587 : BitVec 32 := 768#32
  let v750 : BitVec 32 := Scalar.muli v740 c768_i32_587
  let v751 : Index := Scalar.indexCast v750
  let c0_588 : Index := 0#32
  ![v751.toNat, 0]
def k0_off25 (d0 : Dev nD) (c0_i32_573 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_572 : BitVec 32 := 2#32
  let v729 : BitVec 32 := Scalar.subi v2 c2_i32_572
  let v730 : BitVec 32 := Scalar.addi v729 c0_i32_573
  let c4_i32_574 : BitVec 32 := 4#32
  let c0_i32_575 : BitVec 32 := 0#32
  let v731 : BitVec 1 := Scalar.cmpi .eq c4_i32_574 c0_i32_575
  let c1_i32_576 : BitVec 32 := 1#32
  let v732 : BitVec 32 := Scalar.select v731 c1_i32_576 c4_i32_574
  let v733 : BitVec 32 := Scalar.remsi v730 v732
  let c0_i32_578 : BitVec 32 := 0#32
  let v735 : BitVec 1 := Scalar.cmpi .slt v733 c0_i32_578
  let c0_i32_579 : BitVec 32 := 0#32
  let v736 : BitVec 1 := Scalar.cmpi .slt v732 c0_i32_579
  let v737 : BitVec 1 := Scalar.xori v735 v736
  let c0_i32_577 : BitVec 32 := 0#32
  let v734 : BitVec 1 := Scalar.cmpi .ne v733 c0_i32_577
  let v738 : BitVec 1 := Scalar.andi v737 v734
  let v739 : BitVec 32 := Scalar.addi v733 v732
  let v740 : BitVec 32 := Scalar.select v738 v739 v733
  let c768_i32_592 : BitVec 32 := 768#32
  let v756 : BitVec 32 := Scalar.muli v740 c768_i32_592
  let v757 : Index := Scalar.indexCast v756
  let c1536_593 : Index := 1536#32
  ![v757.toNat, 1536]
def k0_dev11 (d0 : Dev nD) : Nat :=
  let c0_i32_636 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_635 : BitVec 32 := 1#32
  let v805 : BitVec 32 := Scalar.muli v24 c1_i32_635
  let v806 : BitVec 32 := Scalar.addi c0_i32_636 v805
  v806.toNat
def k0_dev12 (d0 : Dev nD) : Nat :=
  let c0_i32_682 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_681 : BitVec 32 := 1#32
  let v860 : BitVec 32 := Scalar.muli v13 c1_i32_681
  let v861 : BitVec 32 := Scalar.addi c0_i32_682 v860
  v861.toNat
def k0_off26 (d0 : Dev nD) (c0_i32_565 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_564 : BitVec 32 := 2#32
  let v717 : BitVec 32 := Scalar.addi v2 c2_i32_564
  let v718 : BitVec 32 := Scalar.subi v717 c0_i32_565
  let c4_i32_566 : BitVec 32 := 4#32
  let c0_i32_567 : BitVec 32 := 0#32
  let v719 : BitVec 1 := Scalar.cmpi .eq c4_i32_566 c0_i32_567
  let c1_i32_568 : BitVec 32 := 1#32
  let v720 : BitVec 32 := Scalar.select v719 c1_i32_568 c4_i32_566
  let v721 : BitVec 32 := Scalar.remsi v718 v720
  let c0_i32_570 : BitVec 32 := 0#32
  let v723 : BitVec 1 := Scalar.cmpi .slt v721 c0_i32_570
  let c0_i32_571 : BitVec 32 := 0#32
  let v724 : BitVec 1 := Scalar.cmpi .slt v720 c0_i32_571
  let v725 : BitVec 1 := Scalar.xori v723 v724
  let c0_i32_569 : BitVec 32 := 0#32
  let v722 : BitVec 1 := Scalar.cmpi .ne v721 c0_i32_569
  let v726 : BitVec 1 := Scalar.andi v725 v722
  let v727 : BitVec 32 := Scalar.addi v721 v720
  let v728 : BitVec 32 := Scalar.select v726 v727 v721
  let c768_i32_691 : BitVec 32 := 768#32
  let v875 : BitVec 32 := Scalar.muli v728 c768_i32_691
  let v876 : Index := Scalar.indexCast v875
  let c384_692 : Index := 384#32
  ![v876.toNat, 384]
def k0_off27 (d0 : Dev nD) (c0_i32_573 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_572 : BitVec 32 := 2#32
  let v729 : BitVec 32 := Scalar.subi v2 c2_i32_572
  let v730 : BitVec 32 := Scalar.addi v729 c0_i32_573
  let c4_i32_574 : BitVec 32 := 4#32
  let c0_i32_575 : BitVec 32 := 0#32
  let v731 : BitVec 1 := Scalar.cmpi .eq c4_i32_574 c0_i32_575
  let c1_i32_576 : BitVec 32 := 1#32
  let v732 : BitVec 32 := Scalar.select v731 c1_i32_576 c4_i32_574
  let v733 : BitVec 32 := Scalar.remsi v730 v732
  let c0_i32_578 : BitVec 32 := 0#32
  let v735 : BitVec 1 := Scalar.cmpi .slt v733 c0_i32_578
  let c0_i32_579 : BitVec 32 := 0#32
  let v736 : BitVec 1 := Scalar.cmpi .slt v732 c0_i32_579
  let v737 : BitVec 1 := Scalar.xori v735 v736
  let c0_i32_577 : BitVec 32 := 0#32
  let v734 : BitVec 1 := Scalar.cmpi .ne v733 c0_i32_577
  let v738 : BitVec 1 := Scalar.andi v737 v734
  let v739 : BitVec 32 := Scalar.addi v733 v732
  let v740 : BitVec 32 := Scalar.select v738 v739 v733
  let c768_i32_698 : BitVec 32 := 768#32
  let v884 : BitVec 32 := Scalar.muli v740 c768_i32_698
  let v885 : Index := Scalar.indexCast v884
  let c1920_699 : Index := 1920#32
  ![v885.toNat, 1920]
def k0_dev13 (d0 : Dev nD) : Nat :=
  let c0_i32_741 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_740 : BitVec 32 := 1#32
  let v933 : BitVec 32 := Scalar.muli v24 c1_i32_740
  let v934 : BitVec 32 := Scalar.addi c0_i32_741 v933
  v934.toNat
def k0_dev14 (d0 : Dev nD) : Nat :=
  let c0_i32_787 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_786 : BitVec 32 := 1#32
  let v988 : BitVec 32 := Scalar.muli v13 c1_i32_786
  let v989 : BitVec 32 := Scalar.addi c0_i32_787 v988
  v989.toNat
def k0_off28 (d0 : Dev nD) (c0_i32_565 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_564 : BitVec 32 := 2#32
  let v717 : BitVec 32 := Scalar.addi v2 c2_i32_564
  let v718 : BitVec 32 := Scalar.subi v717 c0_i32_565
  let c4_i32_566 : BitVec 32 := 4#32
  let c0_i32_567 : BitVec 32 := 0#32
  let v719 : BitVec 1 := Scalar.cmpi .eq c4_i32_566 c0_i32_567
  let c1_i32_568 : BitVec 32 := 1#32
  let v720 : BitVec 32 := Scalar.select v719 c1_i32_568 c4_i32_566
  let v721 : BitVec 32 := Scalar.remsi v718 v720
  let c0_i32_570 : BitVec 32 := 0#32
  let v723 : BitVec 1 := Scalar.cmpi .slt v721 c0_i32_570
  let c0_i32_571 : BitVec 32 := 0#32
  let v724 : BitVec 1 := Scalar.cmpi .slt v720 c0_i32_571
  let v725 : BitVec 1 := Scalar.xori v723 v724
  let c0_i32_569 : BitVec 32 := 0#32
  let v722 : BitVec 1 := Scalar.cmpi .ne v721 c0_i32_569
  let v726 : BitVec 1 := Scalar.andi v725 v722
  let v727 : BitVec 32 := Scalar.addi v721 v720
  let v728 : BitVec 32 := Scalar.select v726 v727 v721
  let c768_i32_796 : BitVec 32 := 768#32
  let v1003 : BitVec 32 := Scalar.muli v728 c768_i32_796
  let v1004 : Index := Scalar.indexCast v1003
  let c768_797 : Index := 768#32
  ![v1004.toNat, 768]
def k0_off29 (d0 : Dev nD) (c0_i32_573 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_572 : BitVec 32 := 2#32
  let v729 : BitVec 32 := Scalar.subi v2 c2_i32_572
  let v730 : BitVec 32 := Scalar.addi v729 c0_i32_573
  let c4_i32_574 : BitVec 32 := 4#32
  let c0_i32_575 : BitVec 32 := 0#32
  let v731 : BitVec 1 := Scalar.cmpi .eq c4_i32_574 c0_i32_575
  let c1_i32_576 : BitVec 32 := 1#32
  let v732 : BitVec 32 := Scalar.select v731 c1_i32_576 c4_i32_574
  let v733 : BitVec 32 := Scalar.remsi v730 v732
  let c0_i32_578 : BitVec 32 := 0#32
  let v735 : BitVec 1 := Scalar.cmpi .slt v733 c0_i32_578
  let c0_i32_579 : BitVec 32 := 0#32
  let v736 : BitVec 1 := Scalar.cmpi .slt v732 c0_i32_579
  let v737 : BitVec 1 := Scalar.xori v735 v736
  let c0_i32_577 : BitVec 32 := 0#32
  let v734 : BitVec 1 := Scalar.cmpi .ne v733 c0_i32_577
  let v738 : BitVec 1 := Scalar.andi v737 v734
  let v739 : BitVec 32 := Scalar.addi v733 v732
  let v740 : BitVec 32 := Scalar.select v738 v739 v733
  let c768_i32_803 : BitVec 32 := 768#32
  let v1012 : BitVec 32 := Scalar.muli v740 c768_i32_803
  let v1013 : Index := Scalar.indexCast v1012
  let c2304_804 : Index := 2304#32
  ![v1013.toNat, 2304]
def k0_dev15 (d0 : Dev nD) : Nat :=
  let c0_i32_845 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_844 : BitVec 32 := 1#32
  let v1061 : BitVec 32 := Scalar.muli v24 c1_i32_844
  let v1062 : BitVec 32 := Scalar.addi c0_i32_845 v1061
  v1062.toNat
def k0_dev16 (d0 : Dev nD) : Nat :=
  let c0_i32_891 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_890 : BitVec 32 := 1#32
  let v1116 : BitVec 32 := Scalar.muli v13 c1_i32_890
  let v1117 : BitVec 32 := Scalar.addi c0_i32_891 v1116
  v1117.toNat
def k0_off30 (d0 : Dev nD) (c0_i32_565 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_564 : BitVec 32 := 2#32
  let v717 : BitVec 32 := Scalar.addi v2 c2_i32_564
  let v718 : BitVec 32 := Scalar.subi v717 c0_i32_565
  let c4_i32_566 : BitVec 32 := 4#32
  let c0_i32_567 : BitVec 32 := 0#32
  let v719 : BitVec 1 := Scalar.cmpi .eq c4_i32_566 c0_i32_567
  let c1_i32_568 : BitVec 32 := 1#32
  let v720 : BitVec 32 := Scalar.select v719 c1_i32_568 c4_i32_566
  let v721 : BitVec 32 := Scalar.remsi v718 v720
  let c0_i32_570 : BitVec 32 := 0#32
  let v723 : BitVec 1 := Scalar.cmpi .slt v721 c0_i32_570
  let c0_i32_571 : BitVec 32 := 0#32
  let v724 : BitVec 1 := Scalar.cmpi .slt v720 c0_i32_571
  let v725 : BitVec 1 := Scalar.xori v723 v724
  let c0_i32_569 : BitVec 32 := 0#32
  let v722 : BitVec 1 := Scalar.cmpi .ne v721 c0_i32_569
  let v726 : BitVec 1 := Scalar.andi v725 v722
  let v727 : BitVec 32 := Scalar.addi v721 v720
  let v728 : BitVec 32 := Scalar.select v726 v727 v721
  let c768_i32_900 : BitVec 32 := 768#32
  let v1131 : BitVec 32 := Scalar.muli v728 c768_i32_900
  let v1132 : Index := Scalar.indexCast v1131
  let c1152_901 : Index := 1152#32
  ![v1132.toNat, 1152]
def k0_off31 (d0 : Dev nD) (c0_i32_573 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_572 : BitVec 32 := 2#32
  let v729 : BitVec 32 := Scalar.subi v2 c2_i32_572
  let v730 : BitVec 32 := Scalar.addi v729 c0_i32_573
  let c4_i32_574 : BitVec 32 := 4#32
  let c0_i32_575 : BitVec 32 := 0#32
  let v731 : BitVec 1 := Scalar.cmpi .eq c4_i32_574 c0_i32_575
  let c1_i32_576 : BitVec 32 := 1#32
  let v732 : BitVec 32 := Scalar.select v731 c1_i32_576 c4_i32_574
  let v733 : BitVec 32 := Scalar.remsi v730 v732
  let c0_i32_578 : BitVec 32 := 0#32
  let v735 : BitVec 1 := Scalar.cmpi .slt v733 c0_i32_578
  let c0_i32_579 : BitVec 32 := 0#32
  let v736 : BitVec 1 := Scalar.cmpi .slt v732 c0_i32_579
  let v737 : BitVec 1 := Scalar.xori v735 v736
  let c0_i32_577 : BitVec 32 := 0#32
  let v734 : BitVec 1 := Scalar.cmpi .ne v733 c0_i32_577
  let v738 : BitVec 1 := Scalar.andi v737 v734
  let v739 : BitVec 32 := Scalar.addi v733 v732
  let v740 : BitVec 32 := Scalar.select v738 v739 v733
  let c768_i32_907 : BitVec 32 := 768#32
  let v1140 : BitVec 32 := Scalar.muli v740 c768_i32_907
  let v1141 : Index := Scalar.indexCast v1140
  let c2688_908 : Index := 2688#32
  ![v1141.toNat, 2688]
def k0_dev17 (d0 : Dev nD) : Nat :=
  let c0_i32_949 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_948 : BitVec 32 := 1#32
  let v1189 : BitVec 32 := Scalar.muli v24 c1_i32_948
  let v1190 : BitVec 32 := Scalar.addi c0_i32_949 v1189
  v1190.toNat
def k0_dev18 (d0 : Dev nD) : Nat :=
  let c0_i32_995 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_994 : BitVec 32 := 1#32
  let v1244 : BitVec 32 := Scalar.muli v13 c1_i32_994
  let v1245 : BitVec 32 := Scalar.addi c0_i32_995 v1244
  v1245.toNat
def k0_dev19 (d0 : Dev nD) : Nat :=
  let c0_i32_1069 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1068 : BitVec 32 := 1#32
  let v1341 : BitVec 32 := Scalar.muli v24 c1_i32_1068
  let v1342 : BitVec 32 := Scalar.addi c0_i32_1069 v1341
  v1342.toNat
def k0_dev20 (d0 : Dev nD) : Nat :=
  let c0_i32_1115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1114 : BitVec 32 := 1#32
  let v1396 : BitVec 32 := Scalar.muli v13 c1_i32_1114
  let v1397 : BitVec 32 := Scalar.addi c0_i32_1115 v1396
  v1397.toNat
def k0_dev21 (d0 : Dev nD) : Nat :=
  let c0_i32_1173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1172 : BitVec 32 := 1#32
  let v1469 : BitVec 32 := Scalar.muli v24 c1_i32_1172
  let v1470 : BitVec 32 := Scalar.addi c0_i32_1173 v1469
  v1470.toNat
def k0_dev22 (d0 : Dev nD) : Nat :=
  let c0_i32_1219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1218 : BitVec 32 := 1#32
  let v1524 : BitVec 32 := Scalar.muli v13 c1_i32_1218
  let v1525 : BitVec 32 := Scalar.addi c0_i32_1219 v1524
  v1525.toNat
def k0_dev23 (d0 : Dev nD) : Nat :=
  let c0_i32_1277 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1276 : BitVec 32 := 1#32
  let v1597 : BitVec 32 := Scalar.muli v24 c1_i32_1276
  let v1598 : BitVec 32 := Scalar.addi c0_i32_1277 v1597
  v1598.toNat
def k0_dev24 (d0 : Dev nD) : Nat :=
  let c0_i32_1323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1322 : BitVec 32 := 1#32
  let v1652 : BitVec 32 := Scalar.muli v13 c1_i32_1322
  let v1653 : BitVec 32 := Scalar.addi c0_i32_1323 v1652
  v1653.toNat
def k0_dev25 (d0 : Dev nD) : Nat :=
  let c0_i32_1381 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1380 : BitVec 32 := 1#32
  let v1725 : BitVec 32 := Scalar.muli v24 c1_i32_1380
  let v1726 : BitVec 32 := Scalar.addi c0_i32_1381 v1725
  v1726.toNat
def k0_dev26 (d0 : Dev nD) : Nat :=
  let c0_i32_1427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1426 : BitVec 32 := 1#32
  let v1780 : BitVec 32 := Scalar.muli v13 c1_i32_1426
  let v1781 : BitVec 32 := Scalar.addi c0_i32_1427 v1780
  v1781.toNat
def k0_off32 (d0 : Dev nD) (c0_i32_1489 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1864 : BitVec 32 := Scalar.subi v2 c0_i32_1489
  let c4_i32_1490 : BitVec 32 := 4#32
  let c0_i32_1491 : BitVec 32 := 0#32
  let v1865 : BitVec 1 := Scalar.cmpi .eq c4_i32_1490 c0_i32_1491
  let c1_i32_1492 : BitVec 32 := 1#32
  let v1866 : BitVec 32 := Scalar.select v1865 c1_i32_1492 c4_i32_1490
  let v1867 : BitVec 32 := Scalar.remsi v1864 v1866
  let c0_i32_1494 : BitVec 32 := 0#32
  let v1869 : BitVec 1 := Scalar.cmpi .slt v1867 c0_i32_1494
  let c0_i32_1495 : BitVec 32 := 0#32
  let v1870 : BitVec 1 := Scalar.cmpi .slt v1866 c0_i32_1495
  let v1871 : BitVec 1 := Scalar.xori v1869 v1870
  let c0_i32_1493 : BitVec 32 := 0#32
  let v1868 : BitVec 1 := Scalar.cmpi .ne v1867 c0_i32_1493
  let v1872 : BitVec 1 := Scalar.andi v1871 v1868
  let v1873 : BitVec 32 := Scalar.addi v1867 v1866
  let v1874 : BitVec 32 := Scalar.select v1872 v1873 v1867
  let c768_i32_1496 : BitVec 32 := 768#32
  let v1875 : BitVec 32 := Scalar.muli v1874 c768_i32_1496
  let c0_i32_1501 : BitVec 32 := 0#32
  ![v1875.toNat, 0]
def k0_dev27 (d0 : Dev nD) : Nat :=
  let c0_i32_1500 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1499 : BitVec 32 := 1#32
  let v1876 : BitVec 32 := Scalar.muli v24 c1_i32_1499
  let v1877 : BitVec 32 := Scalar.addi c0_i32_1500 v1876
  v1877.toNat
def k0_off33 (d0 : Dev nD) (c0_i32_1532 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1917 : BitVec 32 := Scalar.addi v2 c0_i32_1532
  let c4_i32_1533 : BitVec 32 := 4#32
  let c0_i32_1534 : BitVec 32 := 0#32
  let v1918 : BitVec 1 := Scalar.cmpi .eq c4_i32_1533 c0_i32_1534
  let c1_i32_1535 : BitVec 32 := 1#32
  let v1919 : BitVec 32 := Scalar.select v1918 c1_i32_1535 c4_i32_1533
  let v1920 : BitVec 32 := Scalar.remsi v1917 v1919
  let c0_i32_1537 : BitVec 32 := 0#32
  let v1922 : BitVec 1 := Scalar.cmpi .slt v1920 c0_i32_1537
  let c0_i32_1538 : BitVec 32 := 0#32
  let v1923 : BitVec 1 := Scalar.cmpi .slt v1919 c0_i32_1538
  let v1924 : BitVec 1 := Scalar.xori v1922 v1923
  let c0_i32_1536 : BitVec 32 := 0#32
  let v1921 : BitVec 1 := Scalar.cmpi .ne v1920 c0_i32_1536
  let v1925 : BitVec 1 := Scalar.andi v1924 v1921
  let v1926 : BitVec 32 := Scalar.addi v1920 v1919
  let v1927 : BitVec 32 := Scalar.select v1925 v1926 v1920
  let c768_i32_1539 : BitVec 32 := 768#32
  let v1928 : BitVec 32 := Scalar.muli v1927 c768_i32_1539
  let c1536_i32_1544 : BitVec 32 := 1536#32
  ![v1928.toNat, 1536]
def k0_dev28 (d0 : Dev nD) : Nat :=
  let c0_i32_1543 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1542 : BitVec 32 := 1#32
  let v1929 : BitVec 32 := Scalar.muli v13 c1_i32_1542
  let v1930 : BitVec 32 := Scalar.addi c0_i32_1543 v1929
  v1930.toNat
def k0_off34 (d0 : Dev nD) (c0_i32_1588 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1988 : BitVec 32 := Scalar.subi v2 c0_i32_1588
  let c4_i32_1589 : BitVec 32 := 4#32
  let c0_i32_1590 : BitVec 32 := 0#32
  let v1989 : BitVec 1 := Scalar.cmpi .eq c4_i32_1589 c0_i32_1590
  let c1_i32_1591 : BitVec 32 := 1#32
  let v1990 : BitVec 32 := Scalar.select v1989 c1_i32_1591 c4_i32_1589
  let v1991 : BitVec 32 := Scalar.remsi v1988 v1990
  let c0_i32_1593 : BitVec 32 := 0#32
  let v1993 : BitVec 1 := Scalar.cmpi .slt v1991 c0_i32_1593
  let c0_i32_1594 : BitVec 32 := 0#32
  let v1994 : BitVec 1 := Scalar.cmpi .slt v1990 c0_i32_1594
  let v1995 : BitVec 1 := Scalar.xori v1993 v1994
  let c0_i32_1592 : BitVec 32 := 0#32
  let v1992 : BitVec 1 := Scalar.cmpi .ne v1991 c0_i32_1592
  let v1996 : BitVec 1 := Scalar.andi v1995 v1992
  let v1997 : BitVec 32 := Scalar.addi v1991 v1990
  let v1998 : BitVec 32 := Scalar.select v1996 v1997 v1991
  let c768_i32_1595 : BitVec 32 := 768#32
  let v1999 : BitVec 32 := Scalar.muli v1998 c768_i32_1595
  let c384_i32_1600 : BitVec 32 := 384#32
  ![v1999.toNat, 384]
def k0_dev29 (d0 : Dev nD) : Nat :=
  let c0_i32_1599 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1598 : BitVec 32 := 1#32
  let v2000 : BitVec 32 := Scalar.muli v24 c1_i32_1598
  let v2001 : BitVec 32 := Scalar.addi c0_i32_1599 v2000
  v2001.toNat
def k0_off35 (d0 : Dev nD) (c0_i32_1631 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2041 : BitVec 32 := Scalar.addi v2 c0_i32_1631
  let c4_i32_1632 : BitVec 32 := 4#32
  let c0_i32_1633 : BitVec 32 := 0#32
  let v2042 : BitVec 1 := Scalar.cmpi .eq c4_i32_1632 c0_i32_1633
  let c1_i32_1634 : BitVec 32 := 1#32
  let v2043 : BitVec 32 := Scalar.select v2042 c1_i32_1634 c4_i32_1632
  let v2044 : BitVec 32 := Scalar.remsi v2041 v2043
  let c0_i32_1636 : BitVec 32 := 0#32
  let v2046 : BitVec 1 := Scalar.cmpi .slt v2044 c0_i32_1636
  let c0_i32_1637 : BitVec 32 := 0#32
  let v2047 : BitVec 1 := Scalar.cmpi .slt v2043 c0_i32_1637
  let v2048 : BitVec 1 := Scalar.xori v2046 v2047
  let c0_i32_1635 : BitVec 32 := 0#32
  let v2045 : BitVec 1 := Scalar.cmpi .ne v2044 c0_i32_1635
  let v2049 : BitVec 1 := Scalar.andi v2048 v2045
  let v2050 : BitVec 32 := Scalar.addi v2044 v2043
  let v2051 : BitVec 32 := Scalar.select v2049 v2050 v2044
  let c768_i32_1638 : BitVec 32 := 768#32
  let v2052 : BitVec 32 := Scalar.muli v2051 c768_i32_1638
  let c1920_i32_1643 : BitVec 32 := 1920#32
  ![v2052.toNat, 1920]
def k0_dev30 (d0 : Dev nD) : Nat :=
  let c0_i32_1642 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1641 : BitVec 32 := 1#32
  let v2053 : BitVec 32 := Scalar.muli v13 c1_i32_1641
  let v2054 : BitVec 32 := Scalar.addi c0_i32_1642 v2053
  v2054.toNat
def k0_off36 (d0 : Dev nD) (c0_i32_1687 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2112 : BitVec 32 := Scalar.subi v2 c0_i32_1687
  let c4_i32_1688 : BitVec 32 := 4#32
  let c0_i32_1689 : BitVec 32 := 0#32
  let v2113 : BitVec 1 := Scalar.cmpi .eq c4_i32_1688 c0_i32_1689
  let c1_i32_1690 : BitVec 32 := 1#32
  let v2114 : BitVec 32 := Scalar.select v2113 c1_i32_1690 c4_i32_1688
  let v2115 : BitVec 32 := Scalar.remsi v2112 v2114
  let c0_i32_1692 : BitVec 32 := 0#32
  let v2117 : BitVec 1 := Scalar.cmpi .slt v2115 c0_i32_1692
  let c0_i32_1693 : BitVec 32 := 0#32
  let v2118 : BitVec 1 := Scalar.cmpi .slt v2114 c0_i32_1693
  let v2119 : BitVec 1 := Scalar.xori v2117 v2118
  let c0_i32_1691 : BitVec 32 := 0#32
  let v2116 : BitVec 1 := Scalar.cmpi .ne v2115 c0_i32_1691
  let v2120 : BitVec 1 := Scalar.andi v2119 v2116
  let v2121 : BitVec 32 := Scalar.addi v2115 v2114
  let v2122 : BitVec 32 := Scalar.select v2120 v2121 v2115
  let c768_i32_1694 : BitVec 32 := 768#32
  let v2123 : BitVec 32 := Scalar.muli v2122 c768_i32_1694
  let c768_i32_1699 : BitVec 32 := 768#32
  ![v2123.toNat, 768]
def k0_dev31 (d0 : Dev nD) : Nat :=
  let c0_i32_1698 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1697 : BitVec 32 := 1#32
  let v2124 : BitVec 32 := Scalar.muli v24 c1_i32_1697
  let v2125 : BitVec 32 := Scalar.addi c0_i32_1698 v2124
  v2125.toNat
def k0_off37 (d0 : Dev nD) (c0_i32_1730 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2165 : BitVec 32 := Scalar.addi v2 c0_i32_1730
  let c4_i32_1731 : BitVec 32 := 4#32
  let c0_i32_1732 : BitVec 32 := 0#32
  let v2166 : BitVec 1 := Scalar.cmpi .eq c4_i32_1731 c0_i32_1732
  let c1_i32_1733 : BitVec 32 := 1#32
  let v2167 : BitVec 32 := Scalar.select v2166 c1_i32_1733 c4_i32_1731
  let v2168 : BitVec 32 := Scalar.remsi v2165 v2167
  let c0_i32_1735 : BitVec 32 := 0#32
  let v2170 : BitVec 1 := Scalar.cmpi .slt v2168 c0_i32_1735
  let c0_i32_1736 : BitVec 32 := 0#32
  let v2171 : BitVec 1 := Scalar.cmpi .slt v2167 c0_i32_1736
  let v2172 : BitVec 1 := Scalar.xori v2170 v2171
  let c0_i32_1734 : BitVec 32 := 0#32
  let v2169 : BitVec 1 := Scalar.cmpi .ne v2168 c0_i32_1734
  let v2173 : BitVec 1 := Scalar.andi v2172 v2169
  let v2174 : BitVec 32 := Scalar.addi v2168 v2167
  let v2175 : BitVec 32 := Scalar.select v2173 v2174 v2168
  let c768_i32_1737 : BitVec 32 := 768#32
  let v2176 : BitVec 32 := Scalar.muli v2175 c768_i32_1737
  let c2304_i32_1742 : BitVec 32 := 2304#32
  ![v2176.toNat, 2304]
def k0_dev32 (d0 : Dev nD) : Nat :=
  let c0_i32_1741 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1740 : BitVec 32 := 1#32
  let v2177 : BitVec 32 := Scalar.muli v13 c1_i32_1740
  let v2178 : BitVec 32 := Scalar.addi c0_i32_1741 v2177
  v2178.toNat
def k0_off38 (d0 : Dev nD) (c0_i32_1786 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2236 : BitVec 32 := Scalar.subi v2 c0_i32_1786
  let c4_i32_1787 : BitVec 32 := 4#32
  let c0_i32_1788 : BitVec 32 := 0#32
  let v2237 : BitVec 1 := Scalar.cmpi .eq c4_i32_1787 c0_i32_1788
  let c1_i32_1789 : BitVec 32 := 1#32
  let v2238 : BitVec 32 := Scalar.select v2237 c1_i32_1789 c4_i32_1787
  let v2239 : BitVec 32 := Scalar.remsi v2236 v2238
  let c0_i32_1791 : BitVec 32 := 0#32
  let v2241 : BitVec 1 := Scalar.cmpi .slt v2239 c0_i32_1791
  let c0_i32_1792 : BitVec 32 := 0#32
  let v2242 : BitVec 1 := Scalar.cmpi .slt v2238 c0_i32_1792
  let v2243 : BitVec 1 := Scalar.xori v2241 v2242
  let c0_i32_1790 : BitVec 32 := 0#32
  let v2240 : BitVec 1 := Scalar.cmpi .ne v2239 c0_i32_1790
  let v2244 : BitVec 1 := Scalar.andi v2243 v2240
  let v2245 : BitVec 32 := Scalar.addi v2239 v2238
  let v2246 : BitVec 32 := Scalar.select v2244 v2245 v2239
  let c768_i32_1793 : BitVec 32 := 768#32
  let v2247 : BitVec 32 := Scalar.muli v2246 c768_i32_1793
  let c1152_i32_1798 : BitVec 32 := 1152#32
  ![v2247.toNat, 1152]
def k0_dev33 (d0 : Dev nD) : Nat :=
  let c0_i32_1797 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1796 : BitVec 32 := 1#32
  let v2248 : BitVec 32 := Scalar.muli v24 c1_i32_1796
  let v2249 : BitVec 32 := Scalar.addi c0_i32_1797 v2248
  v2249.toNat
def k0_off39 (d0 : Dev nD) (c0_i32_1829 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2289 : BitVec 32 := Scalar.addi v2 c0_i32_1829
  let c4_i32_1830 : BitVec 32 := 4#32
  let c0_i32_1831 : BitVec 32 := 0#32
  let v2290 : BitVec 1 := Scalar.cmpi .eq c4_i32_1830 c0_i32_1831
  let c1_i32_1832 : BitVec 32 := 1#32
  let v2291 : BitVec 32 := Scalar.select v2290 c1_i32_1832 c4_i32_1830
  let v2292 : BitVec 32 := Scalar.remsi v2289 v2291
  let c0_i32_1834 : BitVec 32 := 0#32
  let v2294 : BitVec 1 := Scalar.cmpi .slt v2292 c0_i32_1834
  let c0_i32_1835 : BitVec 32 := 0#32
  let v2295 : BitVec 1 := Scalar.cmpi .slt v2291 c0_i32_1835
  let v2296 : BitVec 1 := Scalar.xori v2294 v2295
  let c0_i32_1833 : BitVec 32 := 0#32
  let v2293 : BitVec 1 := Scalar.cmpi .ne v2292 c0_i32_1833
  let v2297 : BitVec 1 := Scalar.andi v2296 v2293
  let v2298 : BitVec 32 := Scalar.addi v2292 v2291
  let v2299 : BitVec 32 := Scalar.select v2297 v2298 v2292
  let c768_i32_1836 : BitVec 32 := 768#32
  let v2300 : BitVec 32 := Scalar.muli v2299 c768_i32_1836
  let c2688_i32_1841 : BitVec 32 := 2688#32
  ![v2300.toNat, 2688]
def k0_dev34 (d0 : Dev nD) : Nat :=
  let c0_i32_1840 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1839 : BitVec 32 := 1#32
  let v2301 : BitVec 32 := Scalar.muli v13 c1_i32_1839
  let v2302 : BitVec 32 := Scalar.addi c0_i32_1840 v2301
  v2302.toNat
def k0_dev35 (d0 : Dev nD) : Nat :=
  let c0_i32_1865 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1864 : BitVec 32 := 1#32
  let v2331 : BitVec 32 := Scalar.muli v24 c1_i32_1864
  let v2332 : BitVec 32 := Scalar.addi c0_i32_1865 v2331
  v2332.toNat
def k0_dev36 (d0 : Dev nD) : Nat :=
  let c0_i32_1890 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1889 : BitVec 32 := 1#32
  let v2361 : BitVec 32 := Scalar.muli v13 c1_i32_1889
  let v2362 : BitVec 32 := Scalar.addi c0_i32_1890 v2361
  v2362.toNat
def k0_dev37 (d0 : Dev nD) : Nat :=
  let c0_i32_1915 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1914 : BitVec 32 := 1#32
  let v2391 : BitVec 32 := Scalar.muli v24 c1_i32_1914
  let v2392 : BitVec 32 := Scalar.addi c0_i32_1915 v2391
  v2392.toNat
def k0_dev38 (d0 : Dev nD) : Nat :=
  let c0_i32_1940 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1939 : BitVec 32 := 1#32
  let v2421 : BitVec 32 := Scalar.muli v13 c1_i32_1939
  let v2422 : BitVec 32 := Scalar.addi c0_i32_1940 v2421
  v2422.toNat
def k0_dev39 (d0 : Dev nD) : Nat :=
  let c0_i32_1965 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1964 : BitVec 32 := 1#32
  let v2451 : BitVec 32 := Scalar.muli v24 c1_i32_1964
  let v2452 : BitVec 32 := Scalar.addi c0_i32_1965 v2451
  v2452.toNat
def k0_dev40 (d0 : Dev nD) : Nat :=
  let c0_i32_1990 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1989 : BitVec 32 := 1#32
  let v2481 : BitVec 32 := Scalar.muli v13 c1_i32_1989
  let v2482 : BitVec 32 := Scalar.addi c0_i32_1990 v2481
  v2482.toNat
def k0_dev41 (d0 : Dev nD) : Nat :=
  let c0_i32_2015 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2014 : BitVec 32 := 1#32
  let v2511 : BitVec 32 := Scalar.muli v24 c1_i32_2014
  let v2512 : BitVec 32 := Scalar.addi c0_i32_2015 v2511
  v2512.toNat
def k0_dev42 (d0 : Dev nD) : Nat :=
  let c0_i32_2040 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2039 : BitVec 32 := 1#32
  let v2541 : BitVec 32 := Scalar.muli v13 c1_i32_2039
  let v2542 : BitVec 32 := Scalar.addi c0_i32_2040 v2541
  v2542.toNat
def k0_dev43 (d0 : Dev nD) : Nat :=
  let c0_i32_2065 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2064 : BitVec 32 := 1#32
  let v2571 : BitVec 32 := Scalar.muli v24 c1_i32_2064
  let v2572 : BitVec 32 := Scalar.addi c0_i32_2065 v2571
  v2572.toNat
def k0_dev44 (d0 : Dev nD) : Nat :=
  let c0_i32_2090 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2089 : BitVec 32 := 1#32
  let v2601 : BitVec 32 := Scalar.muli v13 c1_i32_2089
  let v2602 : BitVec 32 := Scalar.addi c0_i32_2090 v2601
  v2602.toNat
def k0_dev45 (d0 : Dev nD) : Nat :=
  let c0_i32_2115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2114 : BitVec 32 := 1#32
  let v2631 : BitVec 32 := Scalar.muli v24 c1_i32_2114
  let v2632 : BitVec 32 := Scalar.addi c0_i32_2115 v2631
  v2632.toNat
def k0_dev46 (d0 : Dev nD) : Nat :=
  let c0_i32_2140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2139 : BitVec 32 := 1#32
  let v2661 : BitVec 32 := Scalar.muli v13 c1_i32_2139
  let v2662 : BitVec 32 := Scalar.addi c0_i32_2140 v2661
  v2662.toNat
def k0_dev47 (d0 : Dev nD) : Nat :=
  let c0_i32_2165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2164 : BitVec 32 := 1#32
  let v2691 : BitVec 32 := Scalar.muli v24 c1_i32_2164
  let v2692 : BitVec 32 := Scalar.addi c0_i32_2165 v2691
  v2692.toNat
def k0_dev48 (d0 : Dev nD) : Nat :=
  let c0_i32_2190 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2189 : BitVec 32 := 1#32
  let v2721 : BitVec 32 := Scalar.muli v13 c1_i32_2189
  let v2722 : BitVec 32 := Scalar.addi c0_i32_2190 v2721
  v2722.toNat
def k0_dev49 (d0 : Dev nD) : Nat :=
  let c0_i32_2215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2214 : BitVec 32 := 1#32
  let v2751 : BitVec 32 := Scalar.muli v24 c1_i32_2214
  let v2752 : BitVec 32 := Scalar.addi c0_i32_2215 v2751
  v2752.toNat
def k0_dev50 (d0 : Dev nD) : Nat :=
  let c0_i32_2240 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2239 : BitVec 32 := 1#32
  let v2781 : BitVec 32 := Scalar.muli v13 c1_i32_2239
  let v2782 : BitVec 32 := Scalar.addi c0_i32_2240 v2781
  v2782.toNat
abbrev stage0_0 : Fin 1 → Memref sig .tc .vmem S3072x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S3072x6144 : Shape := ⟨2, ![3072, 6144]⟩
abbrev S6144x3072 : Shape := ⟨2, ![6144, 3072]⟩
abbrev S3072x3072 : Shape := ⟨2, ![3072, 3072]⟩

abbrev nBuf : Space → Nat
  | .hbm => 4
  | .vmem => 0
  | .smem => 0
  | _ => 0

abbrev bufTy : (tb : Table) → Fin (tcTables nBuf tb) → BufTy
  | .hbm, ⟨0, _⟩ => ⟨S3072x6144, .f32⟩
  | .hbm, ⟨1, _⟩ => ⟨S6144x3072, .f32⟩
  | .hbm, ⟨2, _⟩ => ⟨S3072x3072, .f32⟩
  | .hbm, ⟨3, _⟩ => ⟨S3072x3072, .bf16⟩
  | _, _ => ⟨S3072x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ring.lean ====
/-
# The ring, the blocks and the values

Eight lanes, one per block of 384 columns of the product. Lanes 0 to 3 travel to the right neighbour, lanes 4 to 7
to the left one. On every lane a device takes part in six transfers: three that pass a partial sum of one block of
768 rows on (stages 0, 1, 2) and three that pass a finished block on (stages 3, 4, 5).

`bk l c k` is the device `k` places upstream of `c` on lane `l`; the row block named after it is the one `c` sends
at stage `k - 1` and, finished, at stage `3 + k`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

abbrev Lane : Type := Fin 8

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
set_option backward.proofsInPublic true in
/-- The device lane `l` of `c` sends to. -/
def dn (l : Lane) (c : Dev nD) : Dev nD := ⟨(c.val + (if l.val < 4 then 1 else 3)) % 4, Nat.mod_lt _ (by decide)⟩
set_option backward.proofsInPublic true in
/-- The device `k` places upstream of `c` on lane `l`. -/
def bk (l : Lane) (c : Dev nD) (k : ℕ) : Dev nD := ⟨(c.val + (if l.val < 4 then 3 else 1) * k) % 4, Nat.mod_lt _ (by decide)⟩
abbrev up (l : Lane) (c : Dev nD) : Dev nD := bk l c 1

theorem prv_nxt (c : Dev nD) : prv (nxt c) = c := by revert c; decide
theorem nxt_prv (c : Dev nD) : nxt (prv c) = c := by revert c; decide
theorem bk_zero (l : Lane) (c : Dev nD) : bk l c 0 = c := by revert l c; decide
theorem bk_four (l : Lane) (c : Dev nD) : bk l c 4 = bk l c 0 := by revert l c; decide
theorem bk_three (l : Lane) (c : Dev nD) : bk l c 3 = dn l c := by revert l c; decide
theorem up_dn (l : Lane) (c : Dev nD) : up l (dn l c) = c := by revert l c; decide
theorem dn_up (l : Lane) (c : Dev nD) : dn l (up l c) = c := by revert l c; decide
theorem bk_dn (l : Lane) (c : Dev nD) (k : Fin 5) : bk l (dn l c) (k.val + 1) = bk l c k.val := by revert l c k; decide
theorem bk_up (l : Lane) (c : Dev nD) (k : Fin 5) : bk l (up l c) k.val = bk l c (k.val + 1) := by revert l c k; decide
theorem dn_right (l : Lane) (h : l.val < 4) (c : Dev nD) : dn l c = nxt c := by revert l c; decide
theorem dn_left (l : Lane) (h : ¬ l.val < 4) (c : Dev nD) : dn l c = prv c := by revert l c; decide

/-! ## The pieces of the buffers -/

/-- The block of the result named after device `j`, on lane `l`. -/
abbrev outOff (l : Lane) (j : Dev nD) : Fin 2 → ℕ := ![768 * j.val, 384 * l.val]
theorem outOff_inb : ∀ (l : Lane) (j : Dev nD), ∀ a, outOff l j a + S768x384.size a ≤ S3072x3072.size a := by decide
abbrev outM (l : Lane) (j : Dev nD) : Memref sig .tc .vmem S768x384 .bf16 :=
  (Memref.whole cc0_stg0_0).slice (Rect.unit (s := S3072x3072) (outOff l j) S768x384.size (outOff_inb l j)) (fun _ => rfl)

/-- The two landing buffers, twelve slots each. -/
abbrev commR : Memref sig .tc .vmem S12x768x384 .bf16 := Memref.whole cc0_scratch6
abbrev commL : Memref sig .tc .vmem S12x768x384 .bf16 := Memref.whole cc0_scratch7
def commM (l : Lane) : Memref sig .tc .vmem S12x768x384 .bf16 := if l.val < 4 then commR else commL
theorem commM_lo (l : Lane) (h : l.val < 4) : commM l = commR := if_pos h
theorem commM_hi (l : Lane) (h : ¬ l.val < 4) : commM l = commL := if_neg h
abbrev slotIx (l : Lane) (s : Fin 3) : ℕ := 4 * s.val + l.val % 4
theorem slot_inb : ∀ (l : Lane) (s : Fin 3), ∀ a, (![slotIx l s, 0, 0] : Fin 3 → ℕ) a + S1x768x384.size a ≤ S12x768x384.size a := by decide
abbrev slotRect (l : Lane) (s : Fin 3) : Rect S12x768x384 := Rect.unit (s := S12x768x384) ![slotIx l s, 0, 0] S1x768x384.size (slot_inb l s)
abbrev slotOf (M : Memref sig .tc .vmem S12x768x384 .bf16) (l : Lane) (s : Fin 3) : Memref sig .tc .vmem S768x384 .bf16 :=
  (M.slice (slotRect l s) (fun _ => rfl)).squeeze S768x384 squeezes_S1x768x384_S768x384
abbrev slotM (l : Lane) (s : Fin 3) : Memref sig .tc .vmem S768x384 .bf16 := slotOf (commM l) l s

/-- The 384 rows number `q` of the left operand, in the argument and in the rounded copy. -/
abbrev aOff (q : Fin 8) : Fin 2 → ℕ := ![384 * q.val, 0]
theorem aOff_inb : ∀ q : Fin 8, ∀ a, aOff q a + S384x1536.size a ≤ S3072x1536.size a := by decide
abbrev srcA (q : Fin 8) : Memref sig .tc .hbm S384x1536 .f32 :=
  (Memref.whole main_arg0).slice (Rect.unit (s := S3072x1536) (aOff q) S384x1536.size (aOff_inb q)) (fun _ => rfl)
abbrev abfM (q : Fin 8) : Memref sig .tc .vmem S384x1536 .bf16 :=
  (Memref.whole cc0_scratch0).slice (Rect.unit (s := S3072x1536) (aOff q) S384x1536.size (aOff_inb q)) (fun _ => rfl)
/-- Counting the eight from device `c`'s own first half on. -/
def aq (c : Dev nD) (x : Fin 8) : Fin 8 := ⟨(2 * c.val + x.val) % 8, Nat.mod_lt _ (by decide)⟩
/-- Device `k` places to the right of `c`. -/
def rt (c : Dev nD) (k : Fin 4) : Dev nD := ⟨(c.val + k.val) % 4, Nat.mod_lt _ (by decide)⟩
/-- All 768 rows named after device `j` in the rounded copy. -/
abbrev rowOff (j : Dev nD) : Fin 2 → ℕ := ![768 * j.val, 0]
theorem rowOff_inb : ∀ j : Dev nD, ∀ a, rowOff j a + S768x1536.size a ≤ S3072x1536.size a := by decide
abbrev rowRect (j : Dev nD) : Rect S3072x1536 := Rect.unit (s := S3072x1536) (rowOff j) S768x1536.size (rowOff_inb j)

/-- The 384 columns of lane `l` of the right operand, in the argument and in the rounded copy. -/
abbrev bOff (l : Lane) : Fin 2 → ℕ := ![0, 384 * l.val]
theorem bOff_inb : ∀ l : Lane, ∀ a, bOff l a + S1536x384.size a ≤ S1536x3072.size a := by decide
abbrev srcB (l : Lane) : Memref sig .tc .hbm S1536x384 .f32 :=
  (Memref.whole main_arg1).slice (Rect.unit (s := S1536x3072) (bOff l) S1536x384.size (bOff_inb l)) (fun _ => rfl)
abbrev bbfM (l : Lane) : Memref sig .tc .vmem S1536x384 .bf16 :=
  (Memref.whole cc0_scratch1).slice (Rect.unit (s := S1536x3072) (bOff l) S1536x384.size (bOff_inb l)) (fun _ => rfl)

/-- The two staging slots of either operand. -/
theorem stA_inb : ∀ u : Fin 2, ∀ a, (![u.val, 0, 0] : Fin 3 → ℕ) a + S1x384x1536.size a ≤ S2x384x1536.size a := by decide
theorem stB_inb : ∀ u : Fin 2, ∀ a, (![u.val, 0, 0] : Fin 3 → ℕ) a + S1x1536x384.size a ≤ S2x1536x384.size a := by decide
abbrev stARect (u : Fin 2) : Rect S2x384x1536 := Rect.unit (s := S2x384x1536) ![u.val, 0, 0] S1x384x1536.size (stA_inb u)
abbrev stBRect (u : Fin 2) : Rect S2x1536x384 := Rect.unit (s := S2x1536x384) ![u.val, 0, 0] S1x1536x384.size (stB_inb u)
abbrev stA (u : Fin 2) : Memref sig .tc .vmem S384x1536 .f32 :=
  ((Memref.whole cc0_scratch2).slice (stARect u) (fun _ => rfl)).squeeze S384x1536 squeezes_S1x384x1536_S384x1536
abbrev stB (u : Fin 2) : Memref sig .tc .vmem S1536x384 .f32 :=
  ((Memref.whole cc0_scratch3).slice (stBRect u) (fun _ => rfl)).squeeze S1536x384 squeezes_S1x1536x384_S1536x384

/-- A piece named at an offset equal to another's is that other piece. -/
theorem slice_at {s : Shape} {sp : Space} {e : EltTy} (M : Memref sig .tc sp s e) {off off' : Fin s.rank → ℕ} (size : Fin s.rank → ℕ)
    (h : off = off') {inb : ∀ a, off a + size a ≤ s.size a} {inb' : ∀ a, off' a + size a ≤ s.size a} :
    M.slice (Rect.unit (s := s) off size inb) (fun _ => rfl) = M.slice (Rect.unit (s := s) off' size inb') (fun _ => rfl) := by
  subst h; rfl

/-! ## The semaphores -/

/-- The sending and the receiving semaphore of stage `t` on lane `l`. -/
def sSem (l : Lane) (t : Fin 6) : DmaSem sig :=
  ⟨5 + 12 * (4 * (t.val / 3) + 2 * (l.val / 4)) + 4 * (t.val % 3) + l.val % 4, by revert l t; decide⟩
def rSem (l : Lane) (t : Fin 6) : DmaSem sig :=
  ⟨17 + 12 * (4 * (t.val / 3) + 2 * (l.val / 4)) + 4 * (t.val % 3) + l.val % 4, by revert l t; decide⟩
def semA (u : Fin 2) : DmaSem sig := ⟨1 + u.val, by revert u; decide⟩
def semB (u : Fin 2) : DmaSem sig := ⟨3 + u.val, by revert u; decide⟩
abbrev barS : Sem sig := barrier0

/-- Reading lane, stage and side off a semaphore's number. -/
def laneOf (q : DmaSem sig) : Lane := ⟨4 * (((q.val - 5) / 12 / 2) % 2) + (q.val - 5) % 12 % 4, by omega⟩
def stageOf (q : DmaSem sig) : Fin 6 := ⟨3 * (((q.val - 5) / 12 / 4) % 2) + (q.val - 5) % 12 / 4, by omega⟩
def recvOf (q : DmaSem sig) : Bool := (q.val - 5) / 12 % 2 == 1
theorem laneOf_s : ∀ l t, laneOf (sSem l t) = l := by decide
theorem laneOf_r : ∀ l t, laneOf (rSem l t) = l := by decide
theorem stageOf_s : ∀ l t, stageOf (sSem l t) = t := by decide
theorem stageOf_r : ∀ l t, stageOf (rSem l t) = t := by decide
theorem recvOf_s : ∀ l t, recvOf (sSem l t) = false := by decide
theorem recvOf_r : ∀ l t, recvOf (rSem l t) = true := by decide
theorem ge_s : ∀ l t, 5 ≤ (sSem l t).val := by decide
theorem ge_r : ∀ l t, 5 ≤ (rSem l t).val := by decide

abbrev barCell (c : Dev nD) : GSem nD τ sig := ((c : Thread nD τ), .reg barS)
abbrev sCell (l : Lane) (t : Fin 6) (c : Dev nD) : GSem nD τ sig := ((c : Thread nD τ), .dma (sSem l t))
abbrev rCell (l : Lane) (t : Fin 6) (c : Dev nD) : GSem nD τ sig := ((c : Thread nD τ), .dma (rSem l t))

/-- The credit of one transfer between devices. -/
abbrev N : ℕ := (outM 0 0).view.dmaCredit
theorem N_pos : 0 < N := View.dmaCredit_pos _ (by decide)

/-! ## The values -/

/-- A vector under a leading axis of size one. -/
def lift1 {s s' : Shape} {α : Type} (h : s.numel = s'.numel) (X : s.Idx → α) : s'.Idx → α := fun i => X ((Shape.reshapeEquiv h).symm i)

theorem read_lift {sp : Space} {s s' : Shape} {e : EltTy} {Val : EltTy → Type} (v : View sig .tc sp s' e) (h : s.numel = s'.numel)
    (f : v.ty.Contents Val) (X : s.Idx → Val e) (hX : (v.reshape s h).read Val f = X) : v.read Val f = lift1 h X := by
  subst hX
  funext i
  show _ = (v.reshape s h).read Val f ((Shape.reshapeEquiv h).symm i)
  show _ = v.read Val f (Shape.reshapeEquiv h ((Shape.reshapeEquiv h).symm i))
  rw [Equiv.apply_symm_apply]

variable (m : (ℓ : Loc nD τ sig) → Buf (Elt F) ℓ)

/-- What device `c` reads of the argument's 384 rows number `q`, and the rounded rows it keeps. -/
def aSt (c : Dev nD) (q : Fin 8) : S384x1536.Idx → Elt F .f32 := (srcA q).view.read (Elt F) (m ((c : Thread nD τ).loc main_arg0))
def aRd (c : Dev nD) (q : Fin 8) : S384x1536.Idx → Elt F .bf16 := k0_pay1 (lift1 (squeezes_S1x384x1536_S384x1536.numel_eq) (aSt m c q))
/-- The rounded copy of the left operand. -/
def abfT (c : Dev nD) : Buf (Elt F) ((c : Thread nD τ).loc cc0_scratch0) := fun i : S3072x1536.Idx =>
  aRd m c ⟨(i 0).val / 384, by have : (i 0).val < 3072 := (i 0).isLt; omega⟩
    (fun | ⟨0, _⟩ => (⟨(i 0).val % 384, Nat.mod_lt _ (by decide)⟩ : Fin 384) | ⟨1, _⟩ => (i 1 : Fin 1536))
def aVal (c j : Dev nD) : S768x1536.Idx → Elt F .bf16 := ((Memref.whole cc0_scratch0).access (rowRect j)).read (Elt F) (abfT m c)
def bSt (c : Dev nD) (l : Lane) : S1536x384.Idx → Elt F .f32 := (srcB l).view.read (Elt F) (m ((c : Thread nD τ).loc main_arg1))
def bVal (c : Dev nD) (l : Lane) : S1536x384.Idx → Elt F .bf16 := k0_pay3 (lift1 (squeezes_S1x1536x384_S1536x384.numel_eq) (bSt m c l))
/-- Device `d`'s own product for the block named after `j` on lane `l`. -/
def dVal (l : Lane) (d j : Dev nD) : S768x384.Idx → Elt F .bf16 := k0_pay6 (aVal m d j) (bVal m d l)

end Cert.KernelIdeal.Hand
-- ==== Proof.Sched.lean ====
/-
# The protocol: who hands what to whom, and in which order devices may wait

Every semaphore of a transfer between devices has one round with one duty; the barrier semaphore has one round with
two. The payload of a receiving semaphore is the block that has landed, with its contents, together with the blocks
of the same name on the devices it has already left: those are what the finished block is written into later. A
partial sum's source block travels on this way with its transfer, so the sending semaphores of stages 0 to 2 hand
nothing back; those of stages 3 to 5 hand the finished source block back.
-/
module

public import proofs.«01_k».proof.Proof.Ring

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the launch's rounds, the ring's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ)

/-! ## The partial sums -/

/-- What device `d` holds of the block named after `j` once it has added what `t` transfers have brought. -/
def sVal (l : Lane) : ℕ → Dev nD → Dev nD → (S768x384.Idx → Elt F .bf16)
  | 0, d, j => dVal m l d j
  | t + 1, d, j => k0_pay29 (dVal m l d j) (lift1 (squeezes_S1x768x384_S768x384.numel_eq) (sVal l t (up l d) j))
/-- The finished block named after `j`. -/
def fVal (l : Lane) (j : Dev nD) : S768x384.Idx → Elt F .bf16 := sVal m l 3 j j

/-! ## What is handed over -/

/-- Device `c` owns the piece `M`, whatever it holds. -/
def anyOwn (c : Dev nD) (M : Memref sig .tc .vmem S768x384 .bf16) : sProp 𝕄 :=
  iprop(∃ v : S768x384.Idx → Elt F .bf16, owns (c : Thread nD τ) M fullShare v)
instance anyOwn_storable (c : Dev nD) (M) : BI.Storable (upEmb : UEmb _ 𝕄) (anyOwn (F := F) c M) := by unfold anyOwn; infer_instance

/-- The block named after `j` on the device `k` places upstream of `c`. -/
abbrev far (l : Lane) (j c : Dev nD) (k : ℕ) : sProp 𝕄 := anyOwn (F := F) (bk l c k) (outM l j)
/-- The blocks named after `j` that come along with stage `t`'s transfer into `c`. -/
def oth (l : Lane) (j c : Dev nD) (t : Fin 6) : sProp 𝕄 :=
  match t with
  | 0 => far (F := F) l j c 1
  | 1 => iprop(far (F := F) l j c 1 ∗ far (F := F) l j c 2)
  | 2 => iprop(far (F := F) l j c 1 ∗ far (F := F) l j c 2 ∗ far (F := F) l j c 3)
  | 3 => iprop(far (F := F) l j c 2 ∗ far (F := F) l j c 3)
  | 4 => far (F := F) l j c 3
  | 5 => iprop(emp)
instance oth_storable (l : Lane) (j c : Dev nD) (t : Fin 6) : BI.Storable (upEmb : UEmb _ 𝕄) (oth (F := F) l j c t) := by
  unfold oth; split <;> infer_instance

/-- The block that stage `t` brings to `c`. -/
def landed (l : Lane) (c : Dev nD) (t : Fin 6) : sProp 𝕄 :=
  match t with
  | 0 => owns (c : Thread nD τ) (slotM l 0) fullShare (sVal m l 0 (up l c) (bk l c 2))
  | 1 => owns (c : Thread nD τ) (slotM l 1) fullShare (sVal m l 1 (up l c) (bk l c 3))
  | 2 => owns (c : Thread nD τ) (slotM l 2) fullShare (sVal m l 2 (up l c) (bk l c 0))
  | 3 => owns (c : Thread nD τ) (outM l (bk l c 1)) fullShare (fVal m l (bk l c 1))
  | 4 => owns (c : Thread nD τ) (outM l (bk l c 2)) fullShare (fVal m l (bk l c 2))
  | 5 => owns (c : Thread nD τ) (outM l (bk l c 3)) fullShare (fVal m l (bk l c 3))
instance landed_storable (l : Lane) (c : Dev nD) (t : Fin 6) : BI.Storable (upEmb : UEmb _ 𝕄) (landed (F := F) m l c t) := by
  unfold landed; split <;> infer_instance
/-- The row block stage `t` brings to `c` (the third partial sum is of `c`'s own block). -/
abbrev rowOf (l : Lane) (c : Dev nD) (t : Fin 6) : Dev nD :=
  match t with | 0 => bk l c 2 | 1 => bk l c 3 | 2 => bk l c 0 | 3 => bk l c 1 | 4 => bk l c 2 | 5 => bk l c 3
def recvPay (l : Lane) (t : Fin 6) (c : Dev nD) : sProp 𝕄 := iprop(landed m l c t ∗ oth (F := F) l (rowOf l c t) c t)
def sendPay (l : Lane) (t : Fin 6) (c : Dev nD) : sProp 𝕄 :=
  match t with
  | 3 => owns (c : Thread nD τ) (outM l (bk l c 0)) fullShare (fVal m l (bk l c 0))
  | 4 => owns (c : Thread nD τ) (outM l (bk l c 1)) fullShare (fVal m l (bk l c 1))
  | 5 => owns (c : Thread nD τ) (outM l (bk l c 2)) fullShare (fVal m l (bk l c 2))
  | _ => iprop(emp)
instance recvPay_storable (l : Lane) (t : Fin 6) (c : Dev nD) : BI.Storable (upEmb : UEmb _ 𝕄) (recvPay (F := F) m l t c) := by
  unfold recvPay; infer_instance
instance sendPay_storable (l : Lane) (t : Fin 6) (c : Dev nD) : BI.Storable (upEmb : UEmb _ 𝕄) (sendPay (F := F) m l t c) := by
  unfold sendPay; split <;> infer_instance

abbrev loSlots : Finset (Lane × Fin 3) := Finset.univ.filter fun p => p.1.val < 4
abbrev hiSlots : Finset (Lane × Fin 3) := Finset.univ.filter fun p => ¬ p.1.val < 4
/-- Device `c`'s slots for the transfers from its left neighbour (`loSlots`) or its right one (`hiSlots`). -/
def slots (S : Finset (Lane × Fin 3)) (c : Dev nD) : sProp 𝕄 := bigSep S fun p => anyOwn (F := F) c (slotM p.1 p.2)
instance slots_storable (S) (c : Dev nD) : BI.Storable (upEmb : UEmb _ 𝕄) (slots (F := F) S c) := by unfold slots; infer_instance

/-! ## The schedule -/

def Rd : Rounds.Schedule (GSem nD τ sig) Bool 𝕄 where
  duties g r := if r = 0 ∧ g.1.2 = .tc then (match g.2 with | .reg s => if s = barS then Finset.univ else ∅ | .dma q => if 5 ≤ q.val then {false} else ∅) else ∅
  unitless _ := False
  amount g _ _ := match g.2 with | .reg _ => 1 | .dma _ => N
  payload g _ d := match g.2 with
    | .reg _ => if d then slots loSlots (nxt g.1.1) else slots hiSlots (prv g.1.1)
    | .dma q => if recvOf q then recvPay m (laneOf q) (stageOf q) g.1.1 else sendPay m (laneOf q) (stageOf q) g.1.1
  amount_pos g _ _ _ := by
    split
    · exact Nat.one_pos
    · exact N_pos

instance Rd_payload_storable (g : GSem nD τ sig) (r : ℕ) (d : Bool) : BI.Storable (upEmb : UEmb _ 𝕄) ((Rd (F := F) m).payload g r d) := by
  dsimp only [Rd]
  split
  · split <;> infer_instance
  · split <;> infer_instance

section Sched
variable (c : Dev nD)

omit [FloatOps F] in
theorem duties_bar [FloatOps F] : (Rd (F := F) m).duties (barCell c) 0 = Finset.univ := by
  dsimp only [Rd]; rw [if_pos ⟨rfl, rfl⟩]; exact if_pos rfl
theorem duties_dma (q : DmaSem sig) (hq : 5 ≤ q.val) : (Rd (F := F) m).duties ((c : Thread nD τ), .dma q) 0 = {false} := by
  dsimp only [Rd]; rw [if_pos ⟨rfl, rfl⟩]; exact if_pos hq
theorem duties_later (g : GSem nD τ sig) : ∀ r, 1 ≤ r → (Rd (F := F) m).duties g r = ∅ :=
  fun r hr => by dsimp only [Rd]; rw [if_neg fun h => by omega]
theorem amount_bar (d : Bool) : (Rd (F := F) m).amount (barCell c) 0 d = 1 := rfl
theorem amount_dma (q : DmaSem sig) (d : Bool) : (Rd (F := F) m).amount ((c : Thread nD τ), .dma q) 0 d = N := rfl
theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (q : DmaSem sig) (hq : 5 ≤ q.val) : (Rd (F := F) m).expect ((c : Thread nD τ), .dma q) 0 = N := by
  unfold Schedule.expect Schedule.amountOf; rw [duties_dma m c q hq, Finset.sum_singleton, amount_dma]
theorem pay_bar (d : Bool) : (Rd (F := F) m).payload (barCell c) 0 d = if d then slots loSlots (nxt c) else slots hiSlots (prv c) := rfl
theorem pay_s (l : Lane) (t : Fin 6) (d : Bool) : (Rd (F := F) m).payload (sCell l t c) 0 d = sendPay m l t c := by
  show (if recvOf (sSem l t) then recvPay m (laneOf (sSem l t)) (stageOf (sSem l t)) c else sendPay m (laneOf (sSem l t)) (stageOf (sSem l t)) c) = _
  rw [recvOf_s, laneOf_s, stageOf_s]; rfl
theorem pay_r (l : Lane) (t : Fin 6) (d : Bool) : (Rd (F := F) m).payload (rCell l t c) 0 d = recvPay m l t c := by
  show (if recvOf (rSem l t) then recvPay m (laneOf (rSem l t)) (stageOf (rSem l t)) c else sendPay m (laneOf (rSem l t)) (stageOf (rSem l t)) c) = _
  rw [recvOf_r, laneOf_r, stageOf_r]; rfl
theorem rest_bar : bigSep ((Rd (F := F) m).duties (barCell c) 0 \ ∅) (fun d => (Rd (F := F) m).payload (barCell c) 0 d)
    = iprop(slots hiSlots (prv c) ∗ slots loSlots (nxt c)) := by
  rw [Finset.sdiff_empty, duties_bar, bigSep_univ_eq_bigSepL [false, true] (by decide) (by decide), bigSepL_cons_cons, bigSepL_singleton,
    pay_bar, pay_bar]
  rfl
theorem rest_dma (q : DmaSem sig) (hq : 5 ≤ q.val) :
    bigSep ((Rd (F := F) m).duties ((c : Thread nD τ), .dma q) 0 \ ∅) (fun d => (Rd (F := F) m).payload ((c : Thread nD τ), .dma q) 0 d)
      = (Rd (F := F) m).payload ((c : Thread nD τ), .dma q) 0 false := by
  rw [Finset.sdiff_empty, duties_dma m c q hq, bigSep_singleton]
end Sched

/-! ## What a device owes; the levels -/

/-- What `c` still owes once it has sent `snt l` transfers on each lane `l` and raised `b` neighbours' barriers. -/
def laneO (c : Dev nD) (l : Lane) (n : ℕ) : CellTallies nD τ sig Unit :=
  ∑ t : Fin 6, if n ≤ t.val then tallyAt (rCell l t (dn l c)) () N else 0
def ringO (c : Dev nD) (snt : Lane → ℕ) : CellTallies nD τ sig Unit := ∑ l : Lane, laneO c l (snt l)
def barO (c : Dev nD) : ℕ → CellTallies nD τ sig Unit
  | 0 => tallyAt (barCell (nxt c)) () 1 + tallyAt (barCell (prv c)) () 1
  | 1 => tallyAt (barCell (nxt c)) () 1
  | _ => 0
def owed (c : Dev nD) (snt : Lane → ℕ) (b : ℕ) : CellTallies nD τ sig Unit := ringO c snt + barO c b

/-- A function changed at one lane. -/
def updN (snt : Lane → ℕ) (l : Lane) (n : ℕ) : Lane → ℕ := fun l' => bif Nat.beq l'.val l.val then n else snt l'
theorem updN_same (snt : Lane → ℕ) (l : Lane) (n : ℕ) : updN snt l n l = n := by unfold updN; rw [Nat.beq_refl]; rfl
theorem updN_ne (snt : Lane → ℕ) (l l' : Lane) (n : ℕ) (h : l' ≠ l) : updN snt l n l' = snt l' := by
  unfold updN
  rw [show Nat.beq l'.val l.val = false from Bool.eq_false_iff.mpr fun h' => h (Fin.ext (Nat.eq_of_beq_eq_true h'))]; rfl

theorem laneO_step (c : Dev nD) (l : Lane) (t : Fin 6) : laneO c l t.val = laneO c l (t.val + 1) + tallyAt (rCell l t (dn l c)) () N := by
  unfold laneO
  rw [← Finset.sum_erase_add _ _ (Finset.mem_univ t), ← Finset.sum_erase_add (a := t) (f := fun t' : Fin 6 => if t.val + 1 ≤ t'.val then _ else _) _ (Finset.mem_univ t)]
  rw [if_pos (le_refl _), if_neg (by omega), add_zero]
  congr 1
  refine Finset.sum_congr rfl fun t' ht' => ?_
  have hne : t' ≠ t := Finset.ne_of_mem_erase ht'
  by_cases h : t.val ≤ t'.val
  · rw [if_pos h, if_pos]
    have : t.val ≠ t'.val := fun h' => hne (Fin.ext h'.symm)
    omega
  · rw [if_neg h, if_neg (by omega)]

theorem ringO_step (c : Dev nD) (snt : Lane → ℕ) (l : Lane) (t : Fin 6) (h : snt l = t.val) :
    ringO c snt = ringO c (updN snt l (t.val + 1)) + tallyAt (rCell l t (dn l c)) () N := by
  unfold ringO
  rw [← Finset.sum_erase_add _ _ (Finset.mem_univ l), ← Finset.sum_erase_add (a := l) (f := fun l' => laneO c l' (updN snt l (t.val + 1) l')) _ (Finset.mem_univ l)]
  rw [updN_same, h, laneO_step c l t, ← add_assoc]
  congr 2
  exact Finset.sum_congr rfl fun l' hl' => by rw [updN_ne _ _ _ _ (Finset.ne_of_mem_erase hl')]

theorem owed_step (c : Dev nD) (snt : Lane → ℕ) (b : ℕ) (l : Lane) (t : Fin 6) (h : snt l = t.val) :
    owed c snt b = owed c (updN snt l (t.val + 1)) b + tallyAt (rCell l t (dn l c)) () N := by
  unfold owed; rw [ringO_step c snt l t h, add_right_comm]

def L (g : GSem nD τ sig) : Finset Unit := if g.1.2 = .tc then {()} else ∅
def lv (g : GSem nD τ sig) (_ : Unit) : ℕ := match g.2 with
  | .reg _ => 1
  | .dma q => if 5 ≤ q.val ∧ recvOf q = true then (stageOf q).val + 2 else 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_r (l : Lane) (t : Fin 6) (c : Dev nD) : lv (rCell l t c) () = t.val + 2 := by
  show (if 5 ≤ (rSem l t).val ∧ recvOf (rSem l t) = true then (stageOf (rSem l t)).val + 2 else 0) = _
  rw [if_pos ⟨ge_r l t, recvOf_r l t⟩, stageOf_r]
theorem lv_s (l : Lane) (t : Fin 6) (c : Dev nD) : lv (sCell l t c) () = 0 := by
  show (if 5 ≤ (sSem l t).val ∧ recvOf (sSem l t) = true then (stageOf (sSem l t)).val + 2 else 0) = _
  rw [if_neg (fun h => by have := h.2; rw [recvOf_s] at this; exact Bool.noConfusion this)]
theorem lv_local (q : DmaSem sig) (c : Dev nD) (h : q.val < 5) : lv ((c : Thread nD τ), .dma q) () = 0 := if_neg (fun h' => by omega)

theorem ringO_pos {c : Dev nD} {snt : Lane → ℕ} {g : GSem nD τ sig} {u : Unit} (h : 0 < ringO c snt g u) :
    ∃ (l : Lane) (t : Fin 6), snt l ≤ t.val ∧ g = rCell l t (dn l c) := by
  obtain ⟨l, -, hl⟩ := Pipeline.sum_pos_exists h
  obtain ⟨t, -, ht⟩ := Pipeline.sum_pos_exists hl
  refine ⟨l, t, ?_⟩
  by_cases hn : snt l ≤ t.val
  · rw [if_pos hn, tallyAt_apply] at ht
    by_cases hg : g = rCell l t (dn l c) ∧ u = ()
    · exact ⟨hn, hg.1⟩
    · rw [if_neg hg] at ht; exact absurd ht (Nat.lt_irrefl 0)
  · rw [if_neg hn] at ht; exact absurd ht (Nat.lt_irrefl 0)

theorem barO_pos {c : Dev nD} {b : ℕ} {g : GSem nD τ sig} {u : Unit} (h : 0 < barO c b g u) : b < 2 ∧ (g = barCell (nxt c) ∨ g = barCell (prv c)) := by
  match b with
  | 0 =>
    refine ⟨by decide, ?_⟩
    by_contra hn; rw [not_or] at hn
    replace h : 0 < (tallyAt (barCell (nxt c)) () 1 + tallyAt (barCell (prv c)) () 1 : CellTallies nD τ sig Unit) g u := h
    rw [Pi.add_apply, Finsupp.add_apply, tallyAt_apply, tallyAt_apply, if_neg (fun h' => hn.1 h'.1), if_neg (fun h' => hn.2 h'.1)] at h
    exact Nat.lt_irrefl 0 h
  | 1 =>
    refine ⟨by decide, .inl ?_⟩
    by_contra hn
    replace h : 0 < (tallyAt (barCell (nxt c)) () 1 : CellTallies nD τ sig Unit) g u := h
    rw [tallyAt_apply, if_neg (fun h' => hn h'.1)] at h
    exact Nat.lt_irrefl 0 h
  | n + 2 => exact absurd h (Nat.lt_irrefl 0)

/-- A device may wait at a semaphore of its own that lies below every one it still has to raise. -/
theorem mayWait_of (c : Dev nD) (sm : SemLoc sig) (snt : Lane → ℕ) (b n : ℕ) (hlv : lv ((c : Thread nD τ), sm) () = n)
    (hb : b < 2 → n < 1) (hn : ∀ l, n < snt l + 2) :
    (levAts L lv : sProp 𝕄) ⊢ MayWait (c : Thread nD τ) sm () (owed c snt b) := by
  refine Pipeline.mayWait_of_levAts (by rw [L_tc]; exact Finset.mem_singleton_self _) fun g u hg => ?_
  unfold owed at hg
  rw [Pi.add_apply, Finsupp.add_apply] at hg
  rcases Nat.eq_zero_or_pos (ringO c snt g u) with h0 | hp
  · rw [h0, zero_add] at hg
    obtain ⟨hb', rfl | rfl⟩ := barO_pos hg
    · exact ⟨by rw [L_tc]; exact Finset.mem_singleton_self _, by rw [hlv]; exact hb hb'⟩
    · exact ⟨by rw [L_tc]; exact Finset.mem_singleton_self _, by rw [hlv]; exact hb hb'⟩
  · obtain ⟨l, t, ht, rfl⟩ := ringO_pos hp
    refine ⟨by rw [L_tc]; exact Finset.mem_singleton_self _, ?_⟩
    have := hn l
    rw [hlv, show lv (rCell l t (dn l c)) u = t.val + 2 from lv_r l t _]; omega

end Cert.KernelIdeal.Hand
-- ==== Proof.State.lean ====
/-
# A device's state while it runs the kernel

The kernel's buffers are cut into pieces, and each piece runs through a few phases; `R` says what the device owns of a
piece in a phase. A step of the kernel changes the phases of two or three pieces.
-/
module

public import proofs.«01_k».proof.Proof.Sched

@[expose] public section

noncomputable section

namespace Cert.KernelIdeal.Hand

open Cert.KernelIdeal Cert.KernelIdeal.Gen
open Idealize.ShloMosaic
open Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
abbrev 𝒱₀ : Variants := Variants.none

variable (m : (ℓ : Loc nD τ sig) → Buf (Elt F) ℓ)

/-! ## The pieces and their phases -/

/-- The pieces: the blocks of the result (by lane and distance upstream), the landing slots, the blocks that come along
    with a finished block, the pairs of semaphores, the staging slots, the rounded copies. -/
inductive I : Type
  | row (l : Lane) (k : Fin 4) | arr (l : Lane) (s : Fin 3) | far (l : Lane) (a : Fin 3) | ctl (l : Lane) (t : Fin 6)
  | slA (u : Fin 2) | slB (u : Fin 2) | abf (x : Fin 8) | bbf (l : Lane)
  deriving DecidableEq

/-- The pieces as a sum, kind by kind. -/
abbrev ISum : Type := ((Lane × Fin 4 ⊕ Lane × Fin 3) ⊕ (Lane × Fin 3 ⊕ Lane × Fin 6)) ⊕ ((Fin 2 ⊕ Fin 2) ⊕ (Fin 8 ⊕ Lane))
def iEquiv : ISum ≃ I where
  toFun
    | .inl (.inl (.inl p)) => .row p.1 p.2 | .inl (.inl (.inr p)) => .arr p.1 p.2
    | .inl (.inr (.inl p)) => .far p.1 p.2 | .inl (.inr (.inr p)) => .ctl p.1 p.2
    | .inr (.inl (.inl u)) => .slA u | .inr (.inl (.inr u)) => .slB u
    | .inr (.inr (.inl x)) => .abf x | .inr (.inr (.inr l)) => .bbf l
  invFun
    | .row l k => .inl (.inl (.inl (l, k))) | .arr l s => .inl (.inl (.inr (l, s)))
    | .far l a => .inl (.inr (.inl (l, a))) | .ctl l t => .inl (.inr (.inr (l, t)))
    | .slA u => .inr (.inl (.inl u)) | .slB u => .inr (.inl (.inr u))
    | .abf x => .inr (.inr (.inl x)) | .bbf l => .inr (.inr (.inr l))
  left_inv := by rintro (((p | p) | (p | p)) | ((p | p) | (p | p))) <;> rfl
  right_inv := by rintro (_ | _ | _ | _ | _ | _ | _ | _) <;> rfl
instance : Fintype I := Fintype.ofEquiv ISum iEquiv

/-- The phases. -/
inductive Ph : Type
  | raw | own | sum | gone | fin | here | used | sent | left | done | free | fly (x : Fin 8) | land (x : Fin 8)
  deriving DecidableEq

/-- The number of a piece. -/
def I.code : I → ℕ
  | .row l k => 4 * l.val + k.val
  | .arr l s => 32 + 3 * l.val + s.val
  | .far l a => 56 + 3 * l.val + a.val
  | .ctl l t => 80 + 6 * l.val + t.val
  | .slA u => 128 + u.val
  | .slB u => 130 + u.val
  | .abf x => 132 + x.val
  | .bbf l => 140 + l.val
theorem I.code_inj {i j : I} (h : i.code = j.code) : i = j := by
  have H : ∀ i j : I, i.code = j.code → i = j := by decide +kernel
  exact H i j h

def upd (σ : I → Ph) (i : I) (v : Ph) : I → Ph := fun j => bif Nat.beq j.code i.code then v else σ j
theorem upd_same (σ : I → Ph) (i : I) (v : Ph) : upd σ i v i = v := by unfold upd; rw [Nat.beq_refl]; rfl
theorem upd_ne (σ : I → Ph) {i j : I} (v : Ph) (h : j ≠ i) : upd σ i v j = σ j := by
  unfold upd
  rw [show Nat.beq j.code i.code = false from Bool.eq_false_iff.mpr fun h' => h (I.code_inj (Nat.eq_of_beq_eq_true h'))]; rfl

/-! ## What a piece is worth -/

abbrev half (u : Fin 2) : PosShare TreeShare := if u = 0 then fullShare.left else fullShare.right
/-- Device `c`'s operands as launched. -/
abbrev arg0 (c : Dev nD) : Buf (Elt F) ((c : Thread nD τ).loc main_arg0) := m ((c : Thread nD τ).loc main_arg0)
abbrev arg1 (c : Dev nD) : Buf (Elt F) ((c : Thread nD τ).loc main_arg1) := m ((c : Thread nD τ).loc main_arg1)
abbrev loS (s : Fin 3) : Fin 6 := ⟨s.val, by omega⟩
abbrev hiS (a : Fin 3) : Fin 6 := ⟨a.val + 3, by omega⟩
abbrev NA : ℕ := (stA 0).view.dmaCredit
abbrev NB : ℕ := (stB 0).view.dmaCredit

/-- What a copy of 384 rows of the left operand in flight to staging slot `u` delivers, and what is held meanwhile. -/
def flyA (c : Dev nD) (u : Fin 2) (x : Fin 8) : sProp 𝕄 :=
  iprop(Flight countersEmb (c : Thread nD τ) (.dma (semA u)) () NA
      iprop(owns (c : Thread nD τ) (stA u) fullShare (aSt m c (aq c x)) ∗ ((c : Thread nD τ).loc main_arg0 ↦[(srcA (aq c x)).view.set]{half u} arg0 m c))
    ∗ ((c : Thread nD τ).loc main_arg0 ↦[Finset.univ \ (srcA (aq c x)).view.set]{half u} arg0 m c))
def flyB (c : Dev nD) (u : Fin 2) (l : Lane) : sProp 𝕄 :=
  iprop(Flight countersEmb (c : Thread nD τ) (.dma (semB u)) () NB
      iprop(owns (c : Thread nD τ) (stB u) fullShare (bSt m c l) ∗ ((c : Thread nD τ).loc main_arg1 ↦[(srcB l).view.set]{half u} arg1 m c))
    ∗ ((c : Thread nD τ).loc main_arg1 ↦[Finset.univ \ (srcB l).view.set]{half u} arg1 m c))
/-- The same slot at rest, besides the slot's own contents. -/
def restA (c : Dev nD) (u : Fin 2) : sProp 𝕄 :=
  iprop(((c : Thread nD τ).loc main_arg0 ↦[Finset.univ]{half u} arg0 m c) ∗ semVal ((c : Thread nD τ), .dma (semA u)) 0)
def restB (c : Dev nD) (u : Fin 2) : sProp 𝕄 :=
  iprop(((c : Thread nD τ).loc main_arg1 ↦[Finset.univ]{half u} arg1 m c) ∗ semVal ((c : Thread nD τ), .dma (semB u)) 0)

/-- What device `c` owns of a piece in a phase. -/
def R (c : Dev nD) : I → Ph → sProp 𝕄
  | .row l k, .raw => anyOwn c (outM l (bk l c k.val))
  | .row l k, .own => owns (c : Thread nD τ) (outM l (bk l c k.val)) fullShare (dVal m l c (bk l c k.val))
  | .row l k, .sum => owns (c : Thread nD τ) (outM l (bk l c k.val)) fullShare (sVal m l ((k.val + 3) % 4) c (bk l c k.val))
  | .row l k, .fin => owns (c : Thread nD τ) (outM l (bk l c k.val)) fullShare (fVal m l (bk l c k.val))
  | .arr l s, .here => recvPay m l (loS s) c
  | .arr l s, .used => iprop(anyOwn c (slotM l s) ∗ oth l (rowOf l c (loS s)) c (loS s))
  | .arr l s, .free => anyOwn c (slotM l s)
  | .far l a, .here => oth l (bk l c (a.val + 1)) c (hiS a)
  | .ctl l t, .raw => iprop(dutyTok ER (sCell l t c) 0 false ∗ dutyTok ER (rCell l t (dn l c)) 0 false ∗ atPos ER (sCell l t c) 0 ∅ 0
      ∗ atPos ER (rCell l t c) 0 ∅ 0 ∗ cred (tallyAt (rCell l t c) () N))
  | .ctl l t, .sent => iprop(cred (tallyAt (sCell l t c) () N) ∗ atPos ER (sCell l t c) 0 ∅ 0
      ∗ atPos ER (rCell l t c) 0 ∅ 0 ∗ cred (tallyAt (rCell l t c) () N))
  | .ctl l t, .left => iprop(semVal (sCell l t c) 0 ∗ atPos ER (rCell l t c) 0 ∅ 0 ∗ cred (tallyAt (rCell l t c) () N))
  | .ctl l t, .done => iprop(semVal (sCell l t c) 0 ∗ semVal (rCell l t c) 0)
  | .slA u, .free => iprop((∃ v : S384x1536.Idx → Elt F .f32, owns (c : Thread nD τ) (stA u) fullShare v) ∗ restA m c u)
  | .slA u, .fly x => flyA m c u x
  | .slA u, .land x => iprop(owns (c : Thread nD τ) (stA u) fullShare (aSt m c (aq c x)) ∗ restA m c u)
  | .slB u, .free => iprop((∃ v : S1536x384.Idx → Elt F .f32, owns (c : Thread nD τ) (stB u) fullShare v) ∗ restB m c u)
  | .slB u, .fly x => flyB m c u x
  | .slB u, .land x => iprop(owns (c : Thread nD τ) (stB u) fullShare (bSt m c x) ∗ restB m c u)
  | .abf x, .raw => iprop(∃ f : Buf (Elt F) ((c : Thread nD τ).loc cc0_scratch0), (c : Thread nD τ).loc cc0_scratch0 ↦[(abfM (aq c x)).view.set]{fullShare} f)
  | .abf x, .own => iprop((c : Thread nD τ).loc cc0_scratch0 ↦[(abfM (aq c x)).view.set]{fullShare} abfT m c)
  | .bbf l, .raw => iprop(∃ v : S1536x384.Idx → Elt F .bf16, owns (c : Thread nD τ) (bbfM l) fullShare v)
  | .bbf l, .own => owns (c : Thread nD τ) (bbfM l) fullShare (bVal m c l)
  | _, _ => iprop(emp)

/-- The pieces outside `S`, each in its phase. -/
def Hold (c : Dev nD) (σ : I → Ph) (S : Finset I) : sProp 𝕄 := bigSep (Finset.univ \ S) fun i => R m c i (σ i)

theorem hold_take (c : Dev nD) {σ : I → Ph} {S : Finset I} (i : I) {v : Ph} (h : σ i = v) (hi : i ∉ S) :
    Hold m c σ S ⊢ iprop(R m c i v ∗ Hold m c σ (insert i S)) := by
  unfold Hold
  rw [bigSep_erase (show i ∈ Finset.univ \ S from Finset.mem_sdiff.mpr ⟨Finset.mem_univ i, hi⟩), h, ← Finset.sdiff_insert]
  exact Entails.refl _
theorem hold_put (c : Dev nD) {σ : I → Ph} {S : Finset I} (i : I) (v : Ph) (hi : i ∉ S) :
    iprop(R m c i v ∗ Hold m c σ (insert i S)) ⊢ Hold m c (upd σ i v) S := by
  unfold Hold
  rw [bigSep_erase (s := Finset.univ \ S) (show i ∈ Finset.univ \ S from Finset.mem_sdiff.mpr ⟨Finset.mem_univ i, hi⟩), ← Finset.sdiff_insert, upd_same]
  refine Laws.sep_mono (Entails.refl _) (Entails.of_eq (bigSep_congr fun j hj => ?_))
  rw [upd_ne]
  rintro rfl
  exact (Finset.mem_sdiff.mp hj).2 (Finset.mem_insert_self _ _)

/-! ## The records and the state -/

/-- The semaphores that carry the ring: the barrier, then sending (`false`) and receiving (`true`) by lane and stage. -/
abbrev CIx : Type := Option (Bool × Lane × Fin 6)
def rcell (x : Dev nD × CIx) : GSem nD τ sig := match x.2 with
  | none => barCell x.1 | some (false, l, t) => sCell l t x.1 | some (true, l, t) => rCell l t x.1

def Recs (K : Dev nD × CIx → ℕ) : sProp 𝕄 :=
  iprop((bigSep Finset.univ fun x : Dev nD × CIx => cellInv ER (Rd m) (K x) (rcell x))
    ∗ (bigSep Finset.univ fun x : Dev nD × CIx => reached ER (rcell x) 0) ∗ levAts L lv)
instance Recs_persistent (K : Dev nD × CIx → ℕ) : BI.Persistent (Recs (F := F) m K) := by unfold Recs; infer_instance

variable (K : Dev nD × CIx → ℕ)
theorem recs_inv (x : Dev nD × CIx) : Recs m K ⊢ cellInv ER (Rd m) (K x) (rcell x) := by
  unfold Recs; iintro ⟨H, -, -⟩
  iapply (show (bigSep Finset.univ fun x : Dev nD × CIx => (cellInv ER (Rd m) (K x) (rcell x) : sProp 𝕄)) ⊢ cellInv ER (Rd m) (K x) (rcell x) from bigSep_elim (Finset.mem_univ x))
  iexact H
theorem recs_reached (x : Dev nD × CIx) : Recs m K ⊢ reached ER (rcell x) 0 := by
  unfold Recs; iintro ⟨-, H, -⟩
  iapply (show (bigSep Finset.univ fun x : Dev nD × CIx => (reached ER (rcell x) 0 : sProp 𝕄)) ⊢ reached ER (rcell x) 0 from bigSep_elim (Finset.mem_univ x))
  iexact H
theorem recs_levs : Recs (F := F) m K ⊢ levAts L lv := by
  unfold Recs; iintro ⟨-, -, H⟩; iexact H

/-- The barrier's share: the two neighbours' tokens with the slots handed over, then the wait, then the neighbours'
    slots not yet sent into. -/
def bars (c : Dev nD) (snt : Lane → ℕ) : ℕ → sProp 𝕄
  | 0 => iprop((dutyTok ER (barCell (prv c)) 0 true ∗ slots loSlots c) ∗ (dutyTok ER (barCell (nxt c)) 0 false ∗ slots hiSlots c)
      ∗ atPos ER (barCell c) 0 ∅ 0 ∗ cred (tallyAt (barCell c) () 2))
  | 1 => iprop((dutyTok ER (barCell (nxt c)) 0 false ∗ slots hiSlots c) ∗ atPos ER (barCell c) 0 ∅ 0 ∗ cred (tallyAt (barCell c) () 2))
  | 2 => iprop(atPos ER (barCell c) 0 ∅ 0 ∗ cred (tallyAt (barCell c) () 2))
  | _ => iprop(semVal (barCell c) 0 ∗ bigSep Finset.univ fun p : Lane × Fin 3 => if snt p.1 ≤ p.2.val then anyOwn (dn p.1 c) (slotM p.1 p.2) else iprop(emp))

/-- Device `c`'s state: the records, what it owes, the pieces in their phases, the barrier's share. -/
def St (c : Dev nD) (σ : I → Ph) (snt : Lane → ℕ) (b : ℕ) : sProp 𝕄 :=
  iprop(Recs m K ∗ (∃ W, owes (c : Thread nD τ) (owed c snt b) W) ∗ Hold m c σ ∅ ∗ bars (F := F) c snt b)

end Cert.KernelIdeal.Hand
-- ==== Proof.Steps.lean ====
/-
# The kernel's local steps

Loads, stores and local copies, each as a step from one state to the next. A program's offset is matched to a piece by
an equation of the two, checked for the four devices.
-/
module

public import proofs.«01_k».proof.Proof.State

@[expose] public section

noncomputable section

namespace Cert.KernelIdeal.Hand

open Cert.KernelIdeal Cert.KernelIdeal.Gen
open Idealize.ShloMosaic
open Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD)

/-- Running a program on device `c`. -/
abbrev W {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Taking pieces out of the state and putting them back -/

theorem st_open {σ : I → Ph} {snt : Lane → ℕ} {b : ℕ} (i : I) {v : Ph} (h : σ i = v) :
    St m K c σ snt b ⊢ iprop(Recs m K ∗ (∃ W, owes (c : Thread nD τ) (owed c snt b) W) ∗ R m c i v ∗ Hold m c σ {i} ∗ bars (F := F) c snt b) := by
  unfold St
  iintro ⟨HR, HO, HH, HB⟩
  ihave H := (hold_take m c (S := ∅) i h (Finset.notMem_empty _)) $$ HH
  icases H with ⟨Hi, HH⟩
  isplitl [HR]; · iexact HR
  isplitl [HO]; · iexact HO
  isplitl [Hi]; · iexact Hi
  isplitl [HH]; · iexact HH
  iexact HB

theorem st_close {σ : I → Ph} {snt : Lane → ℕ} {b : ℕ} (i : I) (v : Ph) :
    iprop(Recs m K ∗ (∃ W, owes (c : Thread nD τ) (owed c snt b) W) ∗ R m c i v ∗ Hold m c σ {i} ∗ bars (F := F) c snt b) ⊢ St m K c (upd σ i v) snt b := by
  unfold St
  iintro ⟨HR, HO, Hi, HH, HB⟩
  isplitl [HR]; · iexact HR
  isplitl [HO]; · iexact HO
  isplitl [Hi HH]
  · iapply (hold_put m c (S := ∅) i v (Finset.notMem_empty _))
    isplitl [Hi]; · iexact Hi
    iexact HH
  iexact HB

theorem st_back {σ : I → Ph} {snt : Lane → ℕ} {b : ℕ} (i : I) {v : Ph} (h : σ i = v) :
    iprop(Recs m K ∗ (∃ W, owes (c : Thread nD τ) (owed c snt b) W) ∗ R m c i v ∗ Hold m c σ {i} ∗ bars (F := F) c snt b) ⊢ St m K c σ snt b := by
  have e : upd σ i v = σ := by
    funext j
    by_cases hj : j = i
    · subst hj; rw [upd_same, h]
    · rw [upd_ne σ v hj]
  have := st_close m K c (σ := σ) (snt := snt) (b := b) i v
  rwa [e] at this

section Ops
variable {α : Type} {σ : I → Ph} {snt : Lane → ℕ} {b : ℕ}

theorem st_deviceId {k : Dev nD → Prog (TpuEff nD τ sig (Elt F) Λ₀ .tc) α} {Q : α → sProp 𝕄} (h : St m K c σ snt b ⊢ W c (k c) Q) :
    St m K c σ snt b ⊢ W c (.op .deviceId k) Q := by
  unfold W; rw [wp_deviceId]; exact h

/-! ## Loads and stores of an owned piece -/

theorem load_owns {cs : CoreSpace} {s : Shape} {e : EltTy} {M : Memref sig .tc cs s e} {r : Rect s} {hl : M.view.LoadsAt r} (hr : ∀ a, r.stride a = 1)
    {k : (r.shape.Idx → Elt F e) → Prog (TpuEff nD τ sig (Elt F) Λ₀ .tc) α} {Q : α → sProp 𝕄} {q : PosShare TreeShare} {X : r.shape.Idx → Elt F e} :
    owns (c : Thread nD τ) (M.slice r hr) q X ⊢ iprop((owns (c : Thread nD τ) (M.slice r hr) q X -∗ W c (k X) Q) -∗ W c (.op (.load M r hl) k) Q) := by
  unfold owns
  iintro ⟨%f, %hf, H⟩ Hk
  subst hf
  iapply (wp_load_rect 𝒱₀ (c : Thread nD τ) none Set.univ (m := M) (r := r) subset_rfl) $$ H
  iintro H
  iapply Hk
  iexists f
  isplitr; · (ipureintro; rfl)
  iexact H

theorem load_owns1 {cs : CoreSpace} {s s' : Shape} {e : EltTy} {M : Memref sig .tc cs s e} {r : Rect s} {hl : M.view.LoadsAt r} (hr : ∀ a, r.stride a = 1)
    (hs : r.shape.Squeezes s')
    {k : (r.shape.Idx → Elt F e) → Prog (TpuEff nD τ sig (Elt F) Λ₀ .tc) α} {Q : α → sProp 𝕄} {q : PosShare TreeShare} {X : s'.Idx → Elt F e} :
    owns (c : Thread nD τ) ((M.slice r hr).squeeze s' hs) q X
      ⊢ iprop((owns (c : Thread nD τ) ((M.slice r hr).squeeze s' hs) q X -∗ W c (k (lift1 hs.numel_eq X)) Q) -∗ W c (.op (.load M r hl) k) Q) := by
  unfold owns
  iintro ⟨%f, %hf, H⟩ Hk
  have e1 := read_lift (M.slice r hr).view hs.numel_eq f X hf
  have e2 : ((M.slice r hr).squeeze s' hs).view.set = (M.access r).set := View.set_reshape _ hs.numel_eq
  have e3 : (M.access r).set ⊆ ((M.slice r hr).squeeze s' hs).view.set := by rw [e2]
  iapply (wp_load_rect 𝒱₀ (c : Thread nD τ) none Set.univ (m := M) (r := r) (S := ((M.slice r hr).squeeze s' hs).view.set) e3) $$ H
  iintro H
  rw [show (M.access r).read (Elt F) f = lift1 hs.numel_eq X from e1]
  iapply Hk
  iexists f
  isplitr; · (ipureintro; exact hf)
  iexact H

theorem store_owns {cs : CoreSpace} {s : Shape} {e : EltTy} {M : Memref sig .tc cs s e} {r : Rect s} (hr : ∀ a, r.stride a = 1) {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} {X : r.shape.Idx → Elt F e} :
    owns (c : Thread nD τ) (M.slice r hr) fullShare X
      ⊢ iprop((owns (c : Thread nD τ) (M.slice r hr) fullShare w -∗ W c (k ⟨⟩) Q) -∗ W c (.op (.store M r w Finset.univ hx hm) k) Q) := by
  unfold owns
  iintro ⟨%f, %hf, H⟩ Hk
  have e1 : (M.access r).setOn Finset.univ ⊆ (M.slice r hr).view.set := subset_rfl
  iapply (wp_store 𝒱₀ (c : Thread nD τ) none Set.univ (m := M) (r := r) (Mk := Finset.univ) (S := (M.slice r hr).view.set) e1) $$ H
  iintro H
  iapply Hk
  iexists _
  isplitr
  swap; · iexact H
  ipureintro; exact View.read_write_univ (v := M.access r) f w

/-! ## The same on a piece of the state -/

/-- Reading a piece whose phase owns the block read. -/
theorem st_read {i : I} {v : Ph} {cs : CoreSpace} {s s' : Shape} {e : EltTy} {M : Memref sig .tc cs s e} {r : Rect s} {hl : M.view.LoadsAt r}
    {hr : ∀ a, r.stride a = 1} {k : (r.shape.Idx → Elt F e) → Prog (TpuEff nD τ sig (Elt F) Λ₀ .tc) α} {Q : α → sProp 𝕄} {X : r.shape.Idx → Elt F e} {Rest : sProp 𝕄}
    (hi : σ i = v) (hR : R m c i v = iprop(owns (c : Thread nD τ) (M.slice r hr) fullShare X ∗ Rest))
    (h : St m K c σ snt b ⊢ W c (k X) Q) : St m K c σ snt b ⊢ W c (.op (.load M r hl) k) Q := by
  refine (st_open m K c i hi).trans ?_
  rw [hR]
  iintro ⟨HR, HO, ⟨Hi, Hi'⟩, HH, HB⟩
  iapply (load_owns c hr) $$ Hi
  iintro Hi
  iapply h
  iapply (st_back m K c i hi)
  isplitl [HR]; · iexact HR
  isplitl [HO]; · iexact HO
  isplitl [Hi Hi']
  · rw [hR]
    isplitl [Hi] <;> iassumption
  isplitl [HH] <;> iassumption

/-- Reading a slot under its leading axis of size one. -/
theorem st_read1 {i : I} {v : Ph} {cs : CoreSpace} {s s' : Shape} {e : EltTy} {M : Memref sig .tc cs s e} {r : Rect s} {hl : M.view.LoadsAt r}
    {hr : ∀ a, r.stride a = 1} (hs : r.shape.Squeezes s')
    {k : (r.shape.Idx → Elt F e) → Prog (TpuEff nD τ sig (Elt F) Λ₀ .tc) α} {Q : α → sProp 𝕄} {X : s'.Idx → Elt F e} {Rest : sProp 𝕄}
    (hi : σ i = v) (hR : R m c i v = iprop(owns (c : Thread nD τ) ((M.slice r hr).squeeze s' hs) fullShare X ∗ Rest))
    (h : St m K c σ snt b ⊢ W c (k (lift1 hs.numel_eq X)) Q) : St m K c σ snt b ⊢ W c (.op (.load M r hl) k) Q := by
  refine (st_open m K c i hi).trans ?_
  rw [hR]
  iintro ⟨HR, HO, ⟨Hi, Hi'⟩, HH, HB⟩
  iapply (load_owns1 c hr hs) $$ Hi
  iintro Hi
  iapply h
  iapply (st_back m K c i hi)
  isplitl [HR]; · iexact HR
  isplitl [HO]; · iexact HO
  isplitl [Hi Hi']
  · rw [hR]
    isplitl [Hi] <;> iassumption
  isplitl [HH] <;> iassumption

/-- Reading a piece that holds nothing in particular. -/
theorem st_peek {i : I} {v : Ph} {cs : CoreSpace} {s : Shape} {e : EltTy} {M : Memref sig .tc cs s e} {r : Rect s} {hl : M.view.LoadsAt r}
    {hr : ∀ a, r.stride a = 1} {k : (r.shape.Idx → Elt F e) → Prog (TpuEff nD τ sig (Elt F) Λ₀ .tc) α} {Q : α → sProp 𝕄}
    (hi : σ i = v) (hR : R m c i v = iprop(∃ X : r.shape.Idx → Elt F e, owns (c : Thread nD τ) (M.slice r hr) fullShare X))
    (h : ∀ X, St m K c σ snt b ⊢ W c (k X) Q) : St m K c σ snt b ⊢ W c (.op (.load M r hl) k) Q := by
  refine (st_open m K c i hi).trans ?_
  rw [hR]
  iintro ⟨HR, HO, ⟨%X, Hi⟩, HH, HB⟩
  iapply (load_owns c hr) $$ Hi
  iintro Hi
  iapply (h X)
  iapply (st_back m K c i hi)
  isplitl [HR]; · iexact HR
  isplitl [HO]; · iexact HO
  isplitl [Hi]
  · rw [hR]
    iexists X; iexact Hi
  isplitl [HH] <;> iassumption

/-- Overwriting a piece. -/
theorem st_write {i : I} {v v' : Ph} {cs : CoreSpace} {s : Shape} {e : EltTy} {M : Memref sig .tc cs s e} {r : Rect s}
    {hr : ∀ a, r.stride a = 1} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄}
    (hi : σ i = v) (hR : R m c i v ⊢ iprop(∃ X : r.shape.Idx → Elt F e, owns (c : Thread nD τ) (M.slice r hr) fullShare X))
    (hR' : owns (c : Thread nD τ) (M.slice r hr) fullShare w ⊢ R m c i v')
    (h : St m K c (upd σ i v') snt b ⊢ W c (k ⟨⟩) Q) : St m K c σ snt b ⊢ W c (.op (.store M r w Finset.univ hx hm) k) Q := by
  refine (st_open m K c i hi).trans ?_
  iintro ⟨HR, HO, Hi, HH, HB⟩
  ihave Hi := hR $$ Hi
  icases Hi with ⟨%X, Hi⟩
  iapply (store_owns c hr) $$ Hi
  iintro Hi
  iapply h
  iapply (st_close m K c i v')
  isplitl [HR]; · iexact HR
  isplitl [HO]; · iexact HO
  isplitl [Hi]; · iapply hR'; iexact Hi
  isplitl [HH] <;> iassumption

end Ops

end Cert.KernelIdeal.Hand
-- ==== Proof.Copies.lean ====
/-
# The kernel's steps on its operands

Copying a piece of an operand into a staging slot, rounding it into the kernel's own copy, and reading that copy back.
-/
module

public import proofs.«01_k».proof.Proof.Steps

@[expose] public section

noncomputable section

namespace Cert.KernelIdeal.Hand

open Cert.KernelIdeal Cert.KernelIdeal.Gen
open Idealize.ShloMosaic
open Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD)

section Ops
variable {α : Type} {σ : I → Ph} {snt : Lane → ℕ} {b : ℕ}

/-! ## A copy from an operand into a staging slot -/

theorem copy_start {s : Shape} {e : EltTy} {src : Memref sig .tc .hbm s e} {dst : Memref sig .tc .vmem s e} {q : DmaSem sig}
    {hsrc : src.view.WordExact} {hdst : dst.view.WordExact} {hsem : DmaTarget.Typed .hbm (.dma q) (.here dst : DmaTarget nD τ sig .tc .vmem _ _)}
    {k : PUnit → Prog (TpuEff nD τ sig (Elt F) Λ₀ .tc) α} {Q : α → sProp 𝕄} {p : PosShare TreeShare} {f : Buf (Elt F) (src.view.loc (c : Thread nD τ))}
    (n : ℕ) (hN : dst.view.dmaCredit = n) (hn : 0 < n) (X : s.Idx → Elt F e) :
    iprop(owns (c : Thread nD τ) dst fullShare X ∗ (src.view.loc (c : Thread nD τ) ↦[Finset.univ]{p} f) ∗ semVal ((c : Thread nD τ), .dma q) 0)
      ⊢ iprop(((Flight countersEmb (c : Thread nD τ) (.dma q) () n
              iprop(owns (c : Thread nD τ) dst fullShare (src.view.read (Elt F) f) ∗ (src.view.loc (c : Thread nD τ) ↦[src.view.set]{p} f))
            ∗ (src.view.loc (c : Thread nD τ) ↦[Finset.univ \ src.view.set]{p} f)) -∗ W c (k ⟨⟩) Q)
          -∗ W c (.op (.enqueueDma src (.here dst) (.dma q) hsrc hdst hsem) k) Q) := by
  iintro ⟨Hd, Hs, Hv⟩ Hk
  unfold owns
  icases Hd with ⟨%g, -, Hd⟩
  ihave H := (pointsTo_split_subset (Finset.subset_univ src.view.set)).1 $$ Hs
  icases H with ⟨Hs, Hrest⟩
  iapply (wp_dmaLocal countersEmb 𝒱₀ (c : Thread nD τ) none (dst := dst) (src := src) (via := .same) (Sd := dst.view.set) () n (show dst.view.amount (.dma q) = n from hN) hn subset_rfl) $$ [Hs Hd Hv]
  · isplitl [Hs]; · iexact Hs
    isplitl [Hd] <;> iassumption
  iintro Hf
  iapply Hk
  isplitl [Hf]
  · iapply (Flight_mono (c := (c : Thread nD τ)) countersEmb ?_) $$ Hf
    iintro ⟨Hd, Hs⟩
    isplitl [Hd]
    · iexists _
      isplitr
      swap; · iexact Hd
      ipureintro; exact View.read_write_univ g _
    iexact Hs
  iexact Hrest

theorem copy_wait {sp : Space} {s s' : Shape} {e e' : EltTy} {src : Memref sig .tc sp s' e'} {dst : Memref sig .tc .vmem s e} {q : DmaSem sig}
    {hsrc : src.view.WordExact} {hdst : dst.view.WordExact} {D : sProp 𝕄}
    {k : PUnit → Prog (TpuEff nD τ sig (Elt F) Λ₀ .tc) α} {Q : α → sProp 𝕄}
    (hq : q.val < 5) (n : ℕ) (hN : dst.view.dmaCredit = n) :
    iprop(Recs m K ∗ (∃ W, owes (c : Thread nD τ) (owed c snt b) W) ∗ Flight countersEmb (c : Thread nD τ) (.dma q) () n D)
      ⊢ iprop((iprop(Recs m K ∗ (∃ W, owes (c : Thread nD τ) (owed c snt b) W) ∗ semVal ((c : Thread nD τ), .dma q) 0 ∗ D) -∗ W c (k ⟨⟩) Q)
          -∗ W c (.op (.waitDma2 q src dst hsrc hdst) k) Q) := by
  iintro ⟨#HR, ⟨%Wt, HO⟩, Hf⟩ Hk
  iapply (wp_waitLocalO countersEmb 𝒱₀ (c : Thread nD τ) none (dstw := dst) (srcw := src) () hN) $$ [HO Hf]
  · isplitl [Hf]; · iexact Hf
    isplitl [HO]; · iexact HO
    iapply (mayWait_of c (.dma q) snt b 0 (lv_local q c hq) (fun _ => Nat.one_pos) (fun l => by omega))
    iapply (recs_levs m K); iexact HR
  iintro ⟨HD, Hv, HO⟩
  iapply Hk
  isplitr; · iexact HR
  isplitl [HO]; · (iexists _; iexact HO)
  isplitl [Hv] <;> iassumption

/-- A staging slot with no copy in flight. -/
def atRest : Ph → Bool
  | .free => true | .land _ => true | _ => false

theorem restA_open (u : Fin 2) {v : Ph} (h : atRest v = true) :
    R m c (.slA u) v ⊢ iprop((∃ X : S384x1536.Idx → Elt F .f32, owns (c : Thread nD τ) (stA u) fullShare X) ∗ restA m c u) := by
  match v, h with
  | .free, _ => exact Entails.refl _
  | .land x, _ =>
    show iprop(owns (c : Thread nD τ) (stA u) fullShare (aSt m c (aq c x)) ∗ restA m c u) ⊢ _
    iintro ⟨H, Hr⟩
    isplitl [H]; · (iexists _; iexact H)
    iexact Hr
theorem restB_open (u : Fin 2) {v : Ph} (h : atRest v = true) :
    R m c (.slB u) v ⊢ iprop((∃ X : S1536x384.Idx → Elt F .f32, owns (c : Thread nD τ) (stB u) fullShare X) ∗ restB m c u) := by
  match v, h with
  | .free, _ => exact Entails.refl _
  | .land l, _ =>
    show iprop(owns (c : Thread nD τ) (stB u) fullShare (bSt m c l) ∗ restB m c u) ⊢ _
    iintro ⟨H, Hr⟩
    isplitl [H]; · (iexists _; iexact H)
    iexact Hr

theorem creditA (u : Fin 2) : (stA u).view.dmaCredit = NA := by fin_cases u <;> rfl
theorem creditB (u : Fin 2) : (stB u).view.dmaCredit = NB := by fin_cases u <;> rfl
theorem NA_pos : 0 < NA := View.dmaCredit_pos _ (by decide)
theorem NB_pos : 0 < NB := View.dmaCredit_pos _ (by decide)

/-- Starting the copy of 384 rows of the left operand into slot `u`. -/
theorem st_copyA (u : Fin 2) (x : Fin 8) {src : Memref sig .tc .hbm S384x1536 .f32} {dst : Memref sig .tc .vmem S384x1536 .f32} {q : DmaSem sig}
    {hsrc : src.view.WordExact} {hdst : dst.view.WordExact} {hsem : DmaTarget.Typed .hbm (.dma q) (.here dst : DmaTarget nD τ sig .tc .vmem _ _)}
    {k : PUnit → Prog (TpuEff nD τ sig (Elt F) Λ₀ .tc) α} {Q : α → sProp 𝕄}
    (h : St m K c (upd σ (.slA u) (.fly x)) snt b ⊢ W c (k ⟨⟩) Q)
    (hs : src = srcA (aq c x) := by (refine slice_at _ _ ?_; revert c; decide +kernel)) (hd : dst = stA u := by rfl) (hq : q = semA u := by rfl)
    (hi : atRest (σ (.slA u)) = true := by decide +kernel) :
    St m K c σ snt b ⊢ W c (.op (.enqueueDma src (.here dst) (.dma q) hsrc hdst hsem) k) Q := by
  subst hs hd hq
  refine (st_open m K c (.slA u) rfl).trans ?_
  iintro ⟨HR, HO, Hi, HH, HB⟩
  ihave Hi := (restA_open m c u hi) $$ Hi
  unfold restA
  icases Hi with ⟨⟨%X, Hd⟩, Hs, Hv⟩
  iapply (copy_start c (src := srcA (aq c x)) (dst := stA u) (p := half u) (f := arg0 m c) NA (creditA u) NA_pos X) $$ [Hd Hs Hv]
  · isplitl [Hd]; · iexact Hd
    isplitl [Hs] <;> iassumption
  iintro Hf
  iapply h
  iapply (st_close m K c (.slA u) (.fly x))
  isplitl [HR]; · iexact HR
  isplitl [HO]; · iexact HO
  isplitl [Hf]
  · rw [show R m c (.slA u) (.fly x) = flyA m c u x from rfl]
    unfold flyA; iexact Hf
  isplitl [HH] <;> iassumption

theorem st_copyB (u : Fin 2) (l : Lane) {src : Memref sig .tc .hbm S1536x384 .f32} {dst : Memref sig .tc .vmem S1536x384 .f32} {q : DmaSem sig}
    {hsrc : src.view.WordExact} {hdst : dst.view.WordExact} {hsem : DmaTarget.Typed .hbm (.dma q) (.here dst : DmaTarget nD τ sig .tc .vmem _ _)}
    {k : PUnit → Prog (TpuEff nD τ sig (Elt F) Λ₀ .tc) α} {Q : α → sProp 𝕄}
    (h : St m K c (upd σ (.slB u) (.fly l)) snt b ⊢ W c (k ⟨⟩) Q)
    (hs : src = srcB l := by rfl) (hd : dst = stB u := by rfl) (hq : q = semB u := by rfl)
    (hi : atRest (σ (.slB u)) = true := by decide +kernel) :
    St m K c σ snt b ⊢ W c (.op (.enqueueDma src (.here dst) (.dma q) hsrc hdst hsem) k) Q := by
  subst hs hd hq
  refine (st_open m K c (.slB u) rfl).trans ?_
  iintro ⟨HR, HO, Hi, HH, HB⟩
  ihave Hi := (restB_open m c u hi) $$ Hi
  unfold restB
  icases Hi with ⟨⟨%X, Hd⟩, Hs, Hv⟩
  iapply (copy_start c (src := srcB l) (dst := stB u) (p := half u) (f := arg1 m c) NB (creditB u) NB_pos X) $$ [Hd Hs Hv]
  · isplitl [Hd]; · iexact Hd
    isplitl [Hs] <;> iassumption
  iintro Hf
  iapply h
  iapply (st_close m K c (.slB u) (.fly l))
  isplitl [HR]; · iexact HR
  isplitl [HO]; · iexact HO
  isplitl [Hf]
  · rw [show R m c (.slB u) (.fly l) = flyB m c u l from rfl]
    unfold flyB; iexact Hf
  isplitl [HH] <;> iassumption

/-- Waiting for it. -/
theorem st_waitA (u : Fin 2) (x : Fin 8) {sp : Space} {s' : Shape} {e' : EltTy} {src : Memref sig .tc sp s' e'} {dst : Memref sig .tc .vmem S384x1536 .f32} {q : DmaSem sig}
    {hsrc : src.view.WordExact} {hdst : dst.view.WordExact} {k : PUnit → Prog (TpuEff nD τ sig (Elt F) Λ₀ .tc) α} {Q : α → sProp 𝕄}
    (h : St m K c (upd σ (.slA u) (.land x)) snt b ⊢ W c (k ⟨⟩) Q)
    (hd : dst = stA u := by rfl) (hq : q = semA u := by rfl) (hi : σ (.slA u) = .fly x := by decide +kernel) :
    St m K c σ snt b ⊢ W c (.op (.waitDma2 q src dst hsrc hdst) k) Q := by
  subst hd hq
  refine (st_open m K c (.slA u) hi).trans ?_
  show iprop(_ ∗ _ ∗ flyA m c u x ∗ _) ⊢ _
  unfold flyA
  iintro ⟨HR, HO, ⟨Hf, Hrest⟩, HH, HB⟩
  iapply (copy_wait m K c (snt := snt) (b := b) (q := semA u) (by fin_cases u <;> decide) NA (creditA u)) $$ [HR HO Hf]
  · isplitl [HR]; · iexact HR
    isplitl [HO] <;> iassumption
  iintro ⟨HR, HO, Hv, Hd, Hs⟩
  iapply h
  iapply (st_close m K c (.slA u) (.land x))
  isplitl [HR]; · iexact HR
  isplitl [HO]; · iexact HO
  isplitl [Hv Hd Hs Hrest]
  · rw [show R m c (.slA u) (.land x) = iprop(owns (c : Thread nD τ) (stA u) fullShare (aSt m c (aq c x)) ∗ restA m c u) from rfl]
    unfold restA
    isplitl [Hd]; · iexact Hd
    isplitl [Hs Hrest]
    · iapply (pointsTo_split_subset (Finset.subset_univ (srcA (aq c x)).view.set)).2
      isplitl [Hs] <;> iassumption
    iexact Hv
  isplitl [HH] <;> iassumption

theorem st_waitB (u : Fin 2) (l : Lane) {sp : Space} {s' : Shape} {e' : EltTy} {src : Memref sig .tc sp s' e'} {dst : Memref sig .tc .vmem S1536x384 .f32} {q : DmaSem sig}
    {hsrc : src.view.WordExact} {hdst : dst.view.WordExact} {k : PUnit → Prog (TpuEff nD τ sig (Elt F) Λ₀ .tc) α} {Q : α → sProp 𝕄}
    (h : St m K c (upd σ (.slB u) (.land l)) snt b ⊢ W c (k ⟨⟩) Q)
    (hd : dst = stB u := by rfl) (hq : q = semB u := by rfl) (hi : σ (.slB u) = .fly l := by decide +kernel) :
    St m K c σ snt b ⊢ W c (.op (.waitDma2 q src dst hsrc hdst) k) Q := by
  subst hd hq
  refine (st_open m K c (.slB u) hi).trans ?_
  show iprop(_ ∗ _ ∗ flyB m c u l ∗ _) ⊢ _
  unfold flyB
  iintro ⟨HR, HO, ⟨Hf, Hrest⟩, HH, HB⟩
  iapply (copy_wait m K c (snt := snt) (b := b) (q := semB u) (by fin_cases u <;> decide) NB (creditB u)) $$ [HR HO Hf]
  · isplitl [HR]; · iexact HR
    isplitl [HO] <;> iassumption
  iintro ⟨HR, HO, Hv, Hd, Hs⟩
  iapply h
  iapply (st_close m K c (.slB u) (.land l))
  isplitl [HR]; · iexact HR
  isplitl [HO]; · iexact HO
  isplitl [Hv Hd Hs Hrest]
  · rw [show R m c (.slB u) (.land l) = iprop(owns (c : Thread nD τ) (stB u) fullShare (bSt m c l) ∗ restB m c u) from rfl]
    unfold restB
    isplitl [Hd]; · iexact Hd
    isplitl [Hs Hrest]
    · iapply (pointsTo_split_subset (Finset.subset_univ (srcB l).view.set)).2
      isplitl [Hs] <;> iassumption
    iexact Hv
  isplitl [HH] <;> iassumption

end Ops

end Cert.KernelIdeal.Hand
-- ==== Proof.Blocks.lean ====
/-
# The kernel's steps on its blocks

Rounding a staged piece into the kernel's own copy, multiplying, and adding what a transfer has brought.
-/
module

public import proofs.«01_k».proof.Proof.Copies

@[expose] public section

noncomputable section

namespace Cert.KernelIdeal.Hand

open Cert.KernelIdeal Cert.KernelIdeal.Gen
open Idealize.ShloMosaic
open Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD)

theorem sep_emp_eq (P : sProp 𝕄) : iprop(P ∗ emp) = P := equiv_iff.mp BI.sep_emp

/-! ## The rounded rows -/

/-- Once written, 384 rows of the rounded copy hold what the whole copy is to hold there. -/
theorem abf_done (q : Fin 8) : owns (c : Thread nD τ) (abfM q) fullShare (aRd m c q)
    ⊢ ((c : Thread nD τ).loc cc0_scratch0 ↦[(abfM q).view.set]{fullShare} abfT m c : sProp 𝕄) := by
  unfold owns
  iintro ⟨%f, %hf, H⟩
  have hc : ∀ i ∈ (abfM q).view.set, f i = abfT m c i := ?_
  · iapply (Entails.of_eq (pointsTo_congr hc)); iexact H
  intro i hi
  obtain ⟨x, -, rfl⟩ := Finset.mem_map.mp hi
  have e : f ((abfM q).view.emb x) = aRd m c q x := by rw [← hf]; rfl
  rw [e]
  have h0 : ((abfM q).view.emb x (0 : Fin 2)).val = 384 * q.val + 1 * (x 0).val := rfl
  have h1 : ((abfM q).view.emb x (1 : Fin 2)).val = 0 + 1 * (x 1).val := rfl
  have hx : (x 0).val < 384 := (x 0).isLt
  have hq : q = ⟨((abfM q).view.emb x (0 : Fin 2)).val / 384, by rw [h0]; omega⟩ := Fin.ext (by show q.val = _ / 384; rw [h0]; omega)
  show aRd m c q x = aRd m c ⟨((abfM q).view.emb x (0 : Fin 2)).val / 384, _⟩ _
  rw [← hq]
  congr 1
  funext a
  match a with
  | ⟨0, _⟩ => exact Fin.ext (by show (x 0).val = ((abfM q).view.emb x (0 : Fin 2)).val % 384; rw [h0]; omega)
  | ⟨1, _⟩ => exact Fin.ext (by show (x 1).val = ((abfM q).view.emb x (1 : Fin 2)).val; rw [h1]; omega)

/-- The two halves of a row block among the eight, counted from `c`'s own. -/
def loH (l : Lane) (k : Fin 4) : Fin 8 := ⟨2 * (((if l.val < 4 then 3 else 1) * k.val) % 4), by omega⟩
def hiH (l : Lane) (k : Fin 4) : Fin 8 := ⟨2 * (((if l.val < 4 then 3 else 1) * k.val) % 4) + 1, by omega⟩
theorem aq_lo (l : Lane) (k : Fin 4) : (aq c (loH l k)).val = 2 * (bk l c k.val).val := by revert c l k; decide
theorem aq_hi (l : Lane) (k : Fin 4) : (aq c (hiH l k)).val = 2 * (bk l c k.val).val + 1 := by revert c l k; decide
theorem lo_ne_hi (l : Lane) (k : Fin 4) : I.abf (hiH l k) ∉ ({I.abf (loH l k)} : Finset I) := by revert l k; decide +kernel

theorem halves_disjoint (l : Lane) (k : Fin 4) : Disjoint (abfM (aq c (loH l k))).view.set (abfM (aq c (hiH l k))).view.set := by
  rw [View.set_slice_whole, View.set_slice_whole]
  refine Rect.unit_disjoint (0 : Fin 2) (.inl ?_)
  show 384 * (aq c (loH l k)).val + 384 ≤ 384 * (aq c (hiH l k)).val
  rw [aq_lo, aq_hi]; omega
theorem row_covered (l : Lane) (k : Fin 4) : ((Memref.whole cc0_scratch0).access (rowRect (bk l c k.val))).set
    ⊆ (abfM (aq c (loH l k))).view.set ∪ (abfM (aq c (hiH l k))).view.set := by
  rw [View.set_slice_whole, View.set_slice_whole, View.set_slice_whole]
  intro i hi
  rw [Rect.mem_set_unit] at hi
  have h0 : 768 * (bk l c k.val).val ≤ (i (0 : Fin 2)).val ∧ (i (0 : Fin 2)).val < 768 * (bk l c k.val).val + 768 := hi (0 : Fin 2)
  have h1 : 0 ≤ (i (1 : Fin 2)).val ∧ (i (1 : Fin 2)).val < 0 + 1536 := hi (1 : Fin 2)
  rw [Finset.mem_union, Rect.mem_set_unit, Rect.mem_set_unit]
  by_cases h : (i (0 : Fin 2)).val < 768 * (bk l c k.val).val + 384
  · refine .inl fun a => ?_
    match a with
    | ⟨0, _⟩ =>
      show 384 * (aq c (loH l k)).val ≤ (i (0 : Fin 2)).val ∧ (i (0 : Fin 2)).val < 384 * (aq c (loH l k)).val + 384
      rw [aq_lo]; omega
    | ⟨1, _⟩ => exact h1
  · refine .inr fun a => ?_
    match a with
    | ⟨0, _⟩ =>
      show 384 * (aq c (hiH l k)).val ≤ (i (0 : Fin 2)).val ∧ (i (0 : Fin 2)).val < 384 * (aq c (hiH l k)).val + 384
      rw [aq_hi]; omega
    | ⟨1, _⟩ => exact h1

section Ops
variable {α : Type} {σ : I → Ph} {snt : Lane → ℕ} {b : ℕ}

/-! ## Reading a staging slot, writing the rounded copy -/

theorem st_loadA (u : Fin 2) (x : Fin 8) {hl : (Memref.whole cc0_scratch2 : Memref sig .tc .vmem S2x384x1536 .f32).view.LoadsAt (stARect u).toLoadRect}
    {k : (S1x384x1536.Idx → Elt F .f32) → Prog (TpuEff nD τ sig (Elt F) Λ₀ .tc) α} {Q : α → sProp 𝕄}
    (h : St m K c σ snt b ⊢ W c (k (lift1 (squeezes_S1x384x1536_S384x1536.numel_eq) (aSt m c (aq c x)))) Q)
    (hi : σ (.slA u) = .land x := by decide +kernel) :
    St m K c σ snt b ⊢ W c (.op (.load (Memref.whole cc0_scratch2) (stARect u).toLoadRect hl) k) Q :=
  st_read1 m K c (hr := fun _ => rfl) squeezes_S1x384x1536_S384x1536 hi rfl h

theorem st_loadB (u : Fin 2) (l : Lane) {hl : (Memref.whole cc0_scratch3 : Memref sig .tc .vmem S2x1536x384 .f32).view.LoadsAt (stBRect u).toLoadRect}
    {k : (S1x1536x384.Idx → Elt F .f32) → Prog (TpuEff nD τ sig (Elt F) Λ₀ .tc) α} {Q : α → sProp 𝕄}
    (h : St m K c σ snt b ⊢ W c (k (lift1 (squeezes_S1x1536x384_S1536x384.numel_eq) (bSt m c l))) Q)
    (hi : σ (.slB u) = .land l := by decide +kernel) :
    St m K c σ snt b ⊢ W c (.op (.load (Memref.whole cc0_scratch3) (stBRect u).toLoadRect hl) k) Q :=
  st_read1 m K c (hr := fun _ => rfl) squeezes_S1x1536x384_S1536x384 hi rfl h

theorem abf_raw (x : Fin 8) : R m c (.abf x) .raw = iprop(∃ X : S384x1536.Idx → Elt F .bf16, owns (c : Thread nD τ) (abfM (aq c x)) fullShare X) := by
  refine equiv_iff.mp ⟨?_, ?_⟩
  · show iprop(∃ f : Buf (Elt F) ((c : Thread nD τ).loc cc0_scratch0), (c : Thread nD τ).loc cc0_scratch0 ↦[(abfM (aq c x)).view.set]{fullShare} f) ⊢ _
    iintro ⟨%f, H⟩
    iexists _
    iapply (owns_intro (c : Thread nD τ) (abfM (aq c x)) fullShare f); iexact H
  · show _ ⊢ iprop(∃ f : Buf (Elt F) ((c : Thread nD τ).loc cc0_scratch0), (c : Thread nD τ).loc cc0_scratch0 ↦[(abfM (aq c x)).view.set]{fullShare} f)
    unfold owns
    iintro ⟨%X, %f, -, H⟩
    iexists f; iexact H

theorem st_peekA (x : Fin 8) {off : Fin 2 → ℕ} {inb : ∀ a, off a + S384x1536.size a ≤ S3072x1536.size a}
    {hl : (Memref.whole cc0_scratch0 : Memref sig .tc .vmem S3072x1536 .bf16).view.LoadsAt (Rect.unit (s := S3072x1536) off S384x1536.size inb).toLoadRect}
    {k : (S384x1536.Idx → Elt F .bf16) → Prog (TpuEff nD τ sig (Elt F) Λ₀ .tc) α} {Q : α → sProp 𝕄}
    (h : ∀ X, St m K c σ snt b ⊢ W c (k X) Q)
    (hoff : off = aOff (aq c x) := by (revert c; decide +kernel)) (hi : σ (.abf x) = .raw := by decide +kernel) :
    St m K c σ snt b ⊢ W c (.op (.load (Memref.whole cc0_scratch0) (Rect.unit (s := S3072x1536) off S384x1536.size inb).toLoadRect hl) k) Q := by
  subst hoff
  exact st_peek m K c (hr := fun _ => rfl) hi (abf_raw m c x) h

theorem st_storeA (x : Fin 8) {off : Fin 2 → ℕ} {inb : ∀ a, off a + S384x1536.size a ≤ S3072x1536.size a} {w : S384x1536.Idx → Elt F .bf16}
    {hx : ((Memref.whole cc0_scratch0 : Memref sig .tc .vmem S3072x1536 .bf16).access (Rect.unit (s := S3072x1536) off S384x1536.size inb)).Stores Finset.univ}
    {hm : (Finset.univ : Finset (Rect.unit (s := S3072x1536) off S384x1536.size inb).shape.Idx) = Finset.univ ∨ ∀ a, (Rect.unit (s := S3072x1536) off S384x1536.size inb).stride a = 1}
    {k : PUnit → Prog (TpuEff nD τ sig (Elt F) Λ₀ .tc) α} {Q : α → sProp 𝕄}
    (h : St m K c (upd σ (.abf x) .own) snt b ⊢ W c (k ⟨⟩) Q)
    (hoff : off = aOff (aq c x) := by (revert c; decide +kernel)) (hw : w = aRd m c (aq c x) := by rfl) (hi : σ (.abf x) = .raw := by decide +kernel) :
    St m K c σ snt b ⊢ W c (.op (.store (Memref.whole cc0_scratch0) (Rect.unit (s := S3072x1536) off S384x1536.size inb) w Finset.univ hx hm) k) Q := by
  subst hoff hw
  exact st_write m K c (v' := .own) (hr := fun _ => rfl) hi (Entails.of_eq (abf_raw m c x)) (abf_done m c (aq c x)) h

theorem st_peekB (l : Lane) {off : Fin 2 → ℕ} {inb : ∀ a, off a + S1536x384.size a ≤ S1536x3072.size a}
    {hl : (Memref.whole cc0_scratch1 : Memref sig .tc .vmem S1536x3072 .bf16).view.LoadsAt (Rect.unit (s := S1536x3072) off S1536x384.size inb).toLoadRect}
    {k : (S1536x384.Idx → Elt F .bf16) → Prog (TpuEff nD τ sig (Elt F) Λ₀ .tc) α} {Q : α → sProp 𝕄}
    (h : ∀ X, St m K c σ snt b ⊢ W c (k X) Q)
    (hoff : off = bOff l := by rfl) (hi : σ (.bbf l) = .raw := by decide +kernel) :
    St m K c σ snt b ⊢ W c (.op (.load (Memref.whole cc0_scratch1) (Rect.unit (s := S1536x3072) off S1536x384.size inb).toLoadRect hl) k) Q := by
  subst hoff
  exact st_peek m K c (hr := fun _ => rfl) hi rfl h

theorem st_storeB (l : Lane) {off : Fin 2 → ℕ} {inb : ∀ a, off a + S1536x384.size a ≤ S1536x3072.size a} {w : S1536x384.Idx → Elt F .bf16}
    {hx : ((Memref.whole cc0_scratch1 : Memref sig .tc .vmem S1536x3072 .bf16).access (Rect.unit (s := S1536x3072) off S1536x384.size inb)).Stores Finset.univ}
    {hm : (Finset.univ : Finset (Rect.unit (s := S1536x3072) off S1536x384.size inb).shape.Idx) = Finset.univ ∨ ∀ a, (Rect.unit (s := S1536x3072) off S1536x384.size inb).stride a = 1}
    {k : PUnit → Prog (TpuEff nD τ sig (Elt F) Λ₀ .tc) α} {Q : α → sProp 𝕄}
    (h : St m K c (upd σ (.bbf l) .own) snt b ⊢ W c (k ⟨⟩) Q)
    (hoff : off = bOff l := by rfl) (hw : w = bVal m c l := by rfl) (hi : σ (.bbf l) = .raw := by decide +kernel) :
    St m K c σ snt b ⊢ W c (.op (.store (Memref.whole cc0_scratch1) (Rect.unit (s := S1536x3072) off S1536x384.size inb) w Finset.univ hx hm) k) Q := by
  subst hoff hw
  exact st_write m K c (hr := fun _ => rfl) hi (Entails.refl _) (Entails.refl _) h

/-! ## Multiplying -/

/-- Reading the rounded rows named after the device `k` places upstream on lane `l`. -/
theorem st_readA (l : Lane) (j : Fin 4) {off : Fin 2 → ℕ} {inb : ∀ a, off a + S768x1536.size a ≤ S3072x1536.size a}
    {hl : (Memref.whole cc0_scratch0 : Memref sig .tc .vmem S3072x1536 .bf16).view.LoadsAt (Rect.unit (s := S3072x1536) off S768x1536.size inb).toLoadRect}
    {k : (S768x1536.Idx → Elt F .bf16) → Prog (TpuEff nD τ sig (Elt F) Λ₀ .tc) α} {Q : α → sProp 𝕄}
    (h : St m K c σ snt b ⊢ W c (k (aVal m c (bk l c j.val))) Q)
    (hoff : off = rowOff (bk l c j.val) := by (revert c; decide +kernel))
    (hlo : σ (.abf (loH l j)) = .own := by decide +kernel) (hhi : σ (.abf (hiH l j)) = .own := by decide +kernel) :
    St m K c σ snt b ⊢ W c (.op (.load (Memref.whole cc0_scratch0) (Rect.unit (s := S3072x1536) off S768x1536.size inb).toLoadRect hl) k) Q := by
  subst hoff
  refine (st_open m K c (.abf (loH l j)) hlo).trans ?_
  iintro ⟨HR, HO, Hlo, HH, HB⟩
  ihave HH := (hold_take m c (.abf (hiH l j)) hhi (lo_ne_hi l j)) $$ HH
  icases HH with ⟨Hhi, HH⟩
  ihave H := (show iprop(R m c (.abf (loH l j)) .own ∗ R m c (.abf (hiH l j)) .own) ⊢ _ from (pointsTo_union (halves_disjoint c l j)).2) $$ [Hlo Hhi]
  · isplitl [Hlo] <;> iassumption
  iapply (wp_load_rect 𝒱₀ (c : Thread nD τ) none Set.univ (m := (Memref.whole cc0_scratch0 : Memref sig .tc .vmem S3072x1536 .bf16)) (r := rowRect (bk l c j.val)) (row_covered c l j)) $$ H
  iintro H
  ihave H := (show _ ⊢ iprop(R m c (.abf (loH l j)) .own ∗ R m c (.abf (hiH l j)) .own) from (pointsTo_union (halves_disjoint c l j)).1) $$ H
  icases H with ⟨Hlo, Hhi⟩
  iapply h
  iapply (st_back m K c (.abf (loH l j)) hlo)
  isplitl [HR]; · iexact HR
  isplitl [HO]; · iexact HO
  isplitl [Hlo]; · iexact Hlo
  isplitl [HH Hhi]
  · have e : upd σ (.abf (hiH l j)) .own = σ := by
      funext i
      by_cases hj : i = .abf (hiH l j)
      · subst hj; rw [upd_same, hhi]
      · rw [upd_ne σ _ hj]
    have := hold_put m c (σ := σ) (S := {.abf (loH l j)}) (.abf (hiH l j)) .own (lo_ne_hi l j)
    rw [e] at this
    iapply this
    isplitl [Hhi] <;> iassumption
  iexact HB

theorem st_readB (l : Lane) {off : Fin 2 → ℕ} {inb : ∀ a, off a + S1536x384.size a ≤ S1536x3072.size a}
    {hl : (Memref.whole cc0_scratch1 : Memref sig .tc .vmem S1536x3072 .bf16).view.LoadsAt (Rect.unit (s := S1536x3072) off S1536x384.size inb).toLoadRect}
    {k : (S1536x384.Idx → Elt F .bf16) → Prog (TpuEff nD τ sig (Elt F) Λ₀ .tc) α} {Q : α → sProp 𝕄}
    (h : St m K c σ snt b ⊢ W c (k (bVal m c l)) Q)
    (hoff : off = bOff l := by rfl) (hi : σ (.bbf l) = .own := by decide +kernel) :
    St m K c σ snt b ⊢ W c (.op (.load (Memref.whole cc0_scratch1) (Rect.unit (s := S1536x3072) off S1536x384.size inb).toLoadRect hl) k) Q := by
  subst hoff
  exact st_read m K c (s' := S1536x384) (hr := fun _ => rfl) hi (sep_emp_eq _).symm h

theorem st_peekRow (l : Lane) (j : Fin 4) {off : Fin 2 → ℕ} {inb : ∀ a, off a + S768x384.size a ≤ S3072x3072.size a}
    {hl : (Memref.whole cc0_stg0_0 : Memref sig .tc .vmem S3072x3072 .bf16).view.LoadsAt (Rect.unit (s := S3072x3072) off S768x384.size inb).toLoadRect}
    {k : (S768x384.Idx → Elt F .bf16) → Prog (TpuEff nD τ sig (Elt F) Λ₀ .tc) α} {Q : α → sProp 𝕄}
    (h : ∀ X, St m K c σ snt b ⊢ W c (k X) Q)
    (hoff : off = outOff l (bk l c j.val) := by (revert c; decide +kernel)) (hi : σ (.row l j) = .raw := by decide +kernel) :
    St m K c σ snt b ⊢ W c (.op (.load (Memref.whole cc0_stg0_0) (Rect.unit (s := S3072x3072) off S768x384.size inb).toLoadRect hl) k) Q := by
  subst hoff
  exact st_peek m K c (hr := fun _ => rfl) hi rfl h

/-- Writing the device's own product into a block of the result. -/
theorem st_storeDot (l : Lane) (j : Fin 4) {off : Fin 2 → ℕ} {inb : ∀ a, off a + S768x384.size a ≤ S3072x3072.size a} {w : S768x384.Idx → Elt F .bf16}
    {hx : ((Memref.whole cc0_stg0_0 : Memref sig .tc .vmem S3072x3072 .bf16).access (Rect.unit (s := S3072x3072) off S768x384.size inb)).Stores Finset.univ}
    {hm : (Finset.univ : Finset (Rect.unit (s := S3072x3072) off S768x384.size inb).shape.Idx) = Finset.univ ∨ ∀ a, (Rect.unit (s := S3072x3072) off S768x384.size inb).stride a = 1}
    {k : PUnit → Prog (TpuEff nD τ sig (Elt F) Λ₀ .tc) α} {Q : α → sProp 𝕄}
    (h : St m K c (upd σ (.row l j) .own) snt b ⊢ W c (k ⟨⟩) Q)
    (hoff : off = outOff l (bk l c j.val) := by (revert c; decide +kernel)) (hw : w = dVal m l c (bk l c j.val) := by rfl)
    (hi : σ (.row l j) = .raw := by decide +kernel) :
    St m K c σ snt b ⊢ W c (.op (.store (Memref.whole cc0_stg0_0) (Rect.unit (s := S3072x3072) off S768x384.size inb) w Finset.univ hx hm) k) Q := by
  subst hoff hw
  exact st_write m K c (hr := fun _ => rfl) hi (Entails.refl _) (Entails.refl _) h

/-! ## Adding what a transfer has brought -/

theorem st_readRow (l : Lane) (j : Fin 4) {off : Fin 2 → ℕ} {inb : ∀ a, off a + S768x384.size a ≤ S3072x3072.size a}
    {hl : (Memref.whole cc0_stg0_0 : Memref sig .tc .vmem S3072x3072 .bf16).view.LoadsAt (Rect.unit (s := S3072x3072) off S768x384.size inb).toLoadRect}
    {k : (S768x384.Idx → Elt F .bf16) → Prog (TpuEff nD τ sig (Elt F) Λ₀ .tc) α} {Q : α → sProp 𝕄}
    (h : St m K c σ snt b ⊢ W c (k (dVal m l c (bk l c j.val))) Q)
    (hoff : off = outOff l (bk l c j.val) := by (revert c; decide +kernel)) (hi : σ (.row l j) = .own := by decide +kernel) :
    St m K c σ snt b ⊢ W c (.op (.load (Memref.whole cc0_stg0_0) (Rect.unit (s := S3072x3072) off S768x384.size inb).toLoadRect hl) k) Q := by
  subst hoff
  exact st_read m K c (s' := S768x384) (hr := fun _ => rfl) hi (sep_emp_eq _).symm h

theorem landed_lo (l : Lane) (s : Fin 3) :
    landed m l c (loS s) = owns (c : Thread nD τ) (slotM l s) fullShare (sVal m l s.val (up l c) (rowOf l c (loS s))) := by
  fin_cases s <;> rfl

theorem st_readSlot (l : Lane) (s : Fin 3) {M : Memref sig .tc .vmem S12x768x384 .bf16} {hl : M.view.LoadsAt (slotRect l s).toLoadRect}
    {k : (S1x768x384.Idx → Elt F .bf16) → Prog (TpuEff nD τ sig (Elt F) Λ₀ .tc) α} {Q : α → sProp 𝕄}
    (h : St m K c σ snt b ⊢ W c (k (lift1 (squeezes_S1x768x384_S768x384.numel_eq) (sVal m l s.val (up l c) (rowOf l c (loS s))))) Q)
    (hM : M = commM l := by rfl) (hi : σ (.arr l s) = .here := by decide +kernel) :
    St m K c σ snt b ⊢ W c (.op (.load M (slotRect l s).toLoadRect hl) k) Q := by
  subst hM
  refine st_read1 m K c (hr := fun _ => rfl) squeezes_S1x768x384_S768x384 hi (Rest := oth l (rowOf l c (loS s)) c (loS s)) ?_ h
  show recvPay m l (loS s) c = _
  unfold recvPay
  rw [landed_lo]

/-- Letting go of what a piece holds. -/
theorem st_weaken (i : I) {v v' : Ph} (hi : σ i = v) (hR : R m c i v ⊢ R m c i v') : St m K c σ snt b ⊢ St m K c (upd σ i v') snt b := by
  refine (st_open m K c i hi).trans (BIBase.Entails.trans ?_ (st_close m K c i v'))
  iintro ⟨HR, HO, Hi, HH, HB⟩
  isplitl [HR]; · iexact HR
  isplitl [HO]; · iexact HO
  isplitl [Hi]; · iapply hR; iexact Hi
  isplitl [HH] <;> iassumption

/-- Writing the sum back; the slot is done with. -/
theorem st_storeAdd (l : Lane) (s : Fin 3) {off : Fin 2 → ℕ} {inb : ∀ a, off a + S768x384.size a ≤ S3072x3072.size a} {w : S768x384.Idx → Elt F .bf16}
    {hx : ((Memref.whole cc0_stg0_0 : Memref sig .tc .vmem S3072x3072 .bf16).access (Rect.unit (s := S3072x3072) off S768x384.size inb)).Stores Finset.univ}
    {hm : (Finset.univ : Finset (Rect.unit (s := S3072x3072) off S768x384.size inb).shape.Idx) = Finset.univ ∨ ∀ a, (Rect.unit (s := S3072x3072) off S768x384.size inb).stride a = 1}
    {k : PUnit → Prog (TpuEff nD τ sig (Elt F) Λ₀ .tc) α} {Q : α → sProp 𝕄} (j : Fin 4)
    (h : St m K c (upd (upd σ (.row l j) .sum) (.arr l s) .used) snt b ⊢ W c (k ⟨⟩) Q)
    (hoff : off = outOff l (bk l c j.val) := by (revert c; decide +kernel)) (hw : w = sVal m l ((j.val + 3) % 4) c (bk l c j.val) := by rfl)
    (hi : σ (.row l j) = .own := by decide +kernel) (hs : σ (.arr l s) = .here := by decide +kernel) :
    St m K c σ snt b ⊢ W c (.op (.store (Memref.whole cc0_stg0_0) (Rect.unit (s := S3072x3072) off S768x384.size inb) w Finset.univ hx hm) k) Q := by
  subst hoff hw
  refine st_write m K c (hr := fun _ => rfl) hi ?_ (Entails.refl _) ((st_weaken m K c (.arr l s) (v := .here) (v' := .used) ?_ ?_).trans h)
  · show owns (c : Thread nD τ) (outM l (bk l c j.val)) fullShare (dVal m l c (bk l c j.val)) ⊢ _
    iintro H; iexists _; iexact H
  · rw [upd_ne _ _ (by intro h; exact I.noConfusion h), hs]
  · show recvPay m l (loS s) c ⊢ iprop(anyOwn c (slotM l s) ∗ oth l (rowOf l c (loS s)) c (loS s))
    unfold recvPay anyOwn
    rw [landed_lo]
    iintro ⟨H, Ho⟩
    isplitl [H]; · (iexists _; iexact H)
    iexact Ho

end Ops

end Cert.KernelIdeal.Hand
-- ==== Proof.RingSteps.lean ====
/-
# The kernel's steps between devices

The barrier, the sends of partial sums and of finished blocks, and the waits for them.
-/
module

public import proofs.«01_k».proof.Proof.Blocks

@[expose] public section

noncomputable section

namespace Cert.KernelIdeal.Hand

open Cert.KernelIdeal Cert.KernelIdeal.Gen
open Idealize.ShloMosaic
open Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD)

/-- The neighbours' slots not yet sent into. -/
def ahead (c : Dev nD) (snt : Lane → ℕ) : sProp 𝕄 :=
  bigSep Finset.univ fun p : Lane × Fin 3 => if snt p.1 ≤ p.2.val then anyOwn (F := F) (dn p.1 c) (slotM p.1 p.2) else iprop(emp)

theorem ahead_zero : iprop(slots (F := F) hiSlots (prv c) ∗ slots loSlots (nxt c)) ⊢ ahead c (fun _ => 0) := by
  have e1 : (bigSep loSlots fun p : Lane × Fin 3 => if (fun _ => 0 : Lane → ℕ) p.1 ≤ p.2.val then anyOwn (F := F) (dn p.1 c) (slotM p.1 p.2) else iprop(emp))
      = slots loSlots (nxt c) := by
    unfold slots
    refine bigSep_congr fun p hp => ?_
    rw [if_pos (Nat.zero_le _), dn_right _ (Finset.mem_filter.mp hp).2]
  have e2 : (bigSep hiSlots fun p : Lane × Fin 3 => if (fun _ => 0 : Lane → ℕ) p.1 ≤ p.2.val then anyOwn (F := F) (dn p.1 c) (slotM p.1 p.2) else iprop(emp))
      = slots hiSlots (prv c) := by
    unfold slots
    refine bigSep_congr fun p hp => ?_
    rw [if_pos (Nat.zero_le _), dn_left _ (Finset.mem_filter.mp hp).2]
  rw [← e1, ← e2]
  unfold ahead
  rw [bigSep_filter_split Finset.univ (fun p : Lane × Fin 3 => p.1.val < 4)]
  show iprop(_ ∗ _) ⊢ iprop(_ ∗ _)
  iintro ⟨H, H'⟩
  isplitl [H'] <;> iassumption

/-- The barrier's share at its four stages. -/
theorem bars_0 (snt : Lane → ℕ) : bars (F := F) c snt 0 = iprop((dutyTok ER (barCell (prv c)) 0 true ∗ slots loSlots c)
    ∗ (dutyTok ER (barCell (nxt c)) 0 false ∗ slots hiSlots c) ∗ atPos ER (barCell c) 0 ∅ 0 ∗ cred (tallyAt (barCell c) () 2)) := rfl
theorem bars_1 (snt : Lane → ℕ) : bars (F := F) c snt 1 = iprop((dutyTok ER (barCell (nxt c)) 0 false ∗ slots hiSlots c)
    ∗ atPos ER (barCell c) 0 ∅ 0 ∗ cred (tallyAt (barCell c) () 2)) := rfl
theorem bars_2 (snt : Lane → ℕ) : bars (F := F) c snt 2 = iprop(atPos ER (barCell c) 0 ∅ 0 ∗ cred (tallyAt (barCell c) () 2)) := rfl
theorem bars_3 (snt : Lane → ℕ) : bars (F := F) c snt 3 = iprop(semVal (barCell c) 0 ∗ ahead c snt) := rfl

theorem ahead_take {snt : Lane → ℕ} (l : Lane) (s : Fin 3) (h : snt l = s.val) :
    ahead (F := F) c snt ⊢ iprop(anyOwn (dn l c) (slotM l s) ∗ ahead c (updN snt l (s.val + 1))) := by
  unfold ahead
  rw [bigSep_erase (Finset.mem_univ (l, s)), bigSep_erase (Finset.mem_univ (l, s)) (Φ := fun p : Lane × Fin 3 => if updN snt l (s.val + 1) p.1 ≤ p.2.val then anyOwn (dn p.1 c) (slotM p.1 p.2) else iprop(emp))]
  rw [if_pos (show snt l ≤ s.val from h.le), if_neg (show ¬ updN snt l (s.val + 1) l ≤ s.val by rw [updN_same]; omega)]
  refine Laws.sep_mono (Entails.refl _) (BIBase.Entails.trans ?_ (show _ ⊢ iprop(emp ∗ _) from BI.emp_sep.2))
  refine Entails.of_eq ( bigSep_congr fun p hp => ?_)
  have hne := Finset.ne_of_mem_erase hp
  by_cases hl : p.1 = l
  · have hs : p.2 ≠ s := fun hs => hne (Prod.ext hl hs)
    have hs' : p.2.val ≠ s.val := fun h' => hs (Fin.ext h')
    rw [hl, updN_same, h]
    by_cases hle : s.val ≤ p.2.val
    · rw [if_pos hle, if_pos (by omega)]
    · rw [if_neg hle, if_neg (by omega)]
  · rw [updN_ne _ _ _ _ hl]

theorem ahead_same {snt : Lane → ℕ} (l : Lane) (n : ℕ) (h : 3 ≤ snt l) (hn : 3 ≤ n) : ahead (F := F) c (updN snt l n) = ahead c snt := by
  unfold ahead
  refine bigSep_congr fun p _ => ?_
  have := p.2.isLt
  by_cases hl : p.1 = l
  · rw [hl, updN_same, if_neg (by omega), if_neg (by omega)]
  · rw [updN_ne _ _ _ _ hl]

section Ops
variable {α : Type} {σ : I → Ph} {snt : Lane → ℕ} {b : ℕ}

/-! ## The barrier -/

theorem st_signalLeft {d : Dev nD} {s : Sem sig} {z : ℤ} {k : PUnit → Prog (TpuEff nD τ sig (Elt F) Λ₀ .tc) α} {Q : α → sProp 𝕄}
    (h : St m K c σ snt 1 ⊢ W c (k ⟨⟩) Q) (hd : d = prv c := by (revert c; decide +kernel)) (hs : s = barS := by rfl) (hz : z = ((1 : ℕ) : ℤ) := by rfl) :
    St m K c σ snt 0 ⊢ W c (.op (.semSignal ((d : Dev nD), .tc) s z) k) Q := by
  subst hd hs hz
  unfold St
  rw [bars_0]
  iintro ⟨#HR, ⟨%Wt, HO⟩, HH, ⟨Ht, Hp⟩, HB⟩
  iapply (Rounds.wp_signal 𝒱₀ ER (Rd m) (c : Thread nD τ) none (dst := (prv c : Thread nD τ)) (κ := K (prv c, none))
      (d := true) (by rw [duties_bar]; exact Finset.mem_univ _) (amount_bar m (prv c) true) () (owed c snt 1)
      (by unfold owed; rw [add_assoc]; first | done | rfl)) $$ [HO Ht Hp]
  · isplitr; · iapply (recs_inv m K (prv c, none)); iexact HR
    isplitl [HO]; · iexact HO
    isplitl [Ht]; · iexact Ht
    isplitl [Hp]
    · rw [show (Rd (F := F) m).payload (barCell (prv c)) 0 true = slots loSlots (nxt (prv c)) from rfl, nxt_prv]; iexact Hp
    · iapply (recs_reached m K (prv c, none)); iexact HR
  iintro HO
  iapply h
  unfold St
  rw [bars_1]
  isplitr; · iexact HR
  isplitl [HO]; · (iexists _; iexact HO)
  isplitl [HH] <;> iassumption

theorem st_signalRight {d : Dev nD} {s : Sem sig} {z : ℤ} {k : PUnit → Prog (TpuEff nD τ sig (Elt F) Λ₀ .tc) α} {Q : α → sProp 𝕄}
    (h : St m K c σ snt 2 ⊢ W c (k ⟨⟩) Q) (hd : d = nxt c := by (revert c; decide +kernel)) (hs : s = barS := by rfl) (hz : z = ((1 : ℕ) : ℤ) := by rfl) :
    St m K c σ snt 1 ⊢ W c (.op (.semSignal ((d : Dev nD), .tc) s z) k) Q := by
  subst hd hs hz
  unfold St
  rw [bars_1]
  iintro ⟨#HR, ⟨%Wt, HO⟩, HH, ⟨Ht, Hp⟩, HB⟩
  iapply (Rounds.wp_signal 𝒱₀ ER (Rd m) (c : Thread nD τ) none (dst := (nxt c : Thread nD τ)) (κ := K (nxt c, none))
      (d := false) (by rw [duties_bar]; exact Finset.mem_univ _) (amount_bar m (nxt c) false) () (owed c snt 2)
      (by unfold owed; rw [add_assoc, show barO c 2 = 0 from rfl, zero_add])) $$ [HO Ht Hp]
  · isplitr; · iapply (recs_inv m K (nxt c, none)); iexact HR
    isplitl [HO]; · iexact HO
    isplitl [Ht]; · iexact Ht
    isplitl [Hp]
    · rw [show (Rd (F := F) m).payload (barCell (nxt c)) 0 false = slots hiSlots (prv (nxt c)) from rfl, prv_nxt]; iexact Hp
    · iapply (recs_reached m K (nxt c, none)); iexact HR
  iintro HO
  iapply h
  unfold St
  rw [bars_2]
  isplitr; · iexact HR
  isplitl [HO]; · (iexists _; iexact HO)
  isplitl [HH] <;> iassumption

theorem st_waitBar {s : Sem sig} {z : ℤ} {k : PUnit → Prog (TpuEff nD τ sig (Elt F) Λ₀ .tc) α} {Q : α → sProp 𝕄}
    (h : St m K c σ snt 3 ⊢ W c (k ⟨⟩) Q) (hs : s = barS := by rfl) (hz : z = ((2 : ℕ) : ℤ) := by rfl) (hn : snt = fun _ => 0 := by rfl) :
    St m K c σ snt 2 ⊢ W c (.op (.semWait s z) k) Q := by
  subst hs hz hn
  unfold St
  rw [bars_2]
  iintro ⟨#HR, ⟨%Wt, HO⟩, HH, Ha, Hc⟩
  iapply (Rounds.wp_wait_rest_token 𝒱₀ ER (Rd m) (c : Thread nD τ) none (κ := K (c, none))
      (wpE_semWait_eq 𝒱₀ (c : Thread nD τ) none Set.univ) (Set.mem_univ _) () (O := owed c (fun _ => 0) 2) (W := Wt) (R := 0) (m := 0) (T := ∅)
      (by rw [expect_bar])) $$ [Ha Hc HO]
  · isplitr; · iapply (recs_inv m K (c, none)); iexact HR
    isplitl [Hc]; · iexact Hc
    isplitl [HO]; · iexact HO
    isplitr
    · iapply (mayWait_of c (.reg barS) (fun _ => 0) 2 1 (lv_bar c) (fun h => absurd h (by decide)) (fun l => by decide))
      iapply (recs_levs m K); iexact HR
    iexact Ha
  iintro ⟨HO, Ha, -, Hp⟩
  ihave Hp := (Entails.of_eq (rest_bar m c)) $$ Hp
  imod (Rounds.cell_close ER (Rd m) (g := barCell c) (R := 0 + 1) (Set.mem_univ (K (c, none))) (fun h => h) (duties_later m (barCell c))) $$ [Ha] with Hv
  · isplitr; · iapply (recs_inv m K (c, none)); iexact HR
    iexact Ha
  iapply h
  unfold St
  rw [bars_3]
  isplitr; · iexact HR
  isplitl [HO]; · (iexists _; iexact HO)
  isplitl [HH]; · iexact HH
  isplitl [Hv]; · iexact Hv
  iapply (ahead_zero (F := F) c); iexact Hp

/-! ## One transfer, its source going along or coming back -/

theorem send_along (l : Lane) (t : Fin 6) {src dst : Memref sig .tc .vmem S768x384 .bf16}
    {hsc : (dst : Memref sig (Dev.tc (dn l c) : Thread nD τ).2.kind .vmem S768x384 .bf16).view.ref.isScScratch = false}
    {hsrc : src.view.WordExact} {hdst : dst.view.WordExact}
    {hsem : DmaTarget.Typed .vmem (.dma (rSem l t)) (.remote (Dev.tc (dn l c) : Thread nD τ) dst (.dma (sSem l t)) hsc)}
    {k : PUnit → Prog (TpuEff nD τ sig (Elt F) Λ₀ .tc) α} {Q : α → sProp 𝕄} {X : S768x384.Idx → Elt F .bf16} {E : sProp 𝕄}
    (hN : dst.view.dmaCredit = N) (hn : snt l = t.val) (h1 : (iprop(emp) : sProp 𝕄) ⊢ sendPay m l t c)
    (h2 : iprop((owns (dn l c : Thread nD τ) dst fullShare X ∗ E) ∗ owns (c : Thread nD τ) src fullShare X) ⊢ recvPay m l t (dn l c)) :
    iprop(Recs m K ∗ (∃ W, owes (c : Thread nD τ) (owed c snt b) W) ∗ owns (c : Thread nD τ) src fullShare X ∗ anyOwn (dn l c) dst ∗ E
        ∗ dutyTok ER (sCell l t c) 0 false ∗ dutyTok ER (rCell l t (dn l c)) 0 false)
      ⊢ iprop((iprop(Recs m K ∗ (∃ W, owes (c : Thread nD τ) (owed c (updN snt l (t.val + 1)) b) W) ∗ cred (tallyAt (sCell l t c) () N)) -∗ W c (k ⟨⟩) Q)
          -∗ W c (.op (.enqueueDma src (.remote (Dev.tc (dn l c) : Thread nD τ) dst (.dma (sSem l t)) hsc) (.dma (rSem l t)) hsrc hdst hsem) k) Q) := by
  unfold anyOwn owns
  iintro ⟨#HR, ⟨%Wt, HO⟩, ⟨%fs, %hfs, Hs⟩, ⟨%Y, %fd, -, Hd⟩, HE, Ht1, Ht2⟩ Hk
  subst hfs
  iapply (Rounds.wp_send_landing_pointsTo_with 𝒱₀ ER (Rd m) (c : Thread nD τ) none (κ₁ := K (c, some (false, l, t))) (κ₂ := K (dn l c, some (true, l, t)))
    (r₁ := 0) (r₂ := 0) (d₁ := false) (d₂ := false) (fs := fs) (fd := fd) (F := E) (q := fullShare) (W := Wt)
    (by rw [duties_dma m c _ (ge_s l t)]; exact Finset.mem_singleton_self _) (by rw [duties_dma m (dn l c) _ (ge_r l t)]; exact Finset.mem_singleton_self _)
    () () N (show dst.view.amount (.dma (rSem l t)) = N from hN) (amount_dma m c _ false) (amount_dma m (dn l c) _ false) (owed c (updN snt l (t.val + 1)) b) (owed_step c snt b l t hn)
    (by rw [pay_s]; exact h1) (by
      rw [pay_r]
      refine BIBase.Entails.trans ?_ h2
      unfold owns
      iintro ⟨⟨Hd, HE⟩, Hs⟩
      isplitl [Hd HE]
      · isplitl [Hd]
        · iexists _
          isplitr
          swap; · iexact Hd
          ipureintro; exact View.read_write_univ fd _
        iexact HE
      iexists fs
      isplitr; · (ipureintro; rfl)
      iexact Hs)) $$ [HO Hs Hd HE Ht1 Ht2]
  · isplitr; · iapply (recs_inv m K (c, some (false, l, t))); iexact HR
    isplitr; · iapply (recs_inv m K (dn l c, some (true, l, t))); iexact HR
    isplitl [Hs]; · iexact Hs
    isplitl [Hd HE]; · (isplitl [Hd] <;> iassumption)
    isplitl [HO]; · iexact HO
    isplitl [Ht1]; · iexact Ht1
    isplitr; · iapply (recs_reached m K (c, some (false, l, t))); iexact HR
    isplitl [Ht2]; · iexact Ht2
    iapply (recs_reached m K (dn l c, some (true, l, t))); iexact HR
  iintro ⟨Hc, HO⟩
  iapply Hk
  isplitr; · iexact HR
  isplitl [HO]; · (iexists _; iexact HO)
  iexact Hc

theorem send_back (l : Lane) (t : Fin 6) {src dst : Memref sig .tc .vmem S768x384 .bf16}
    {hsc : (dst : Memref sig (Dev.tc (dn l c) : Thread nD τ).2.kind .vmem S768x384 .bf16).view.ref.isScScratch = false}
    {hsrc : src.view.WordExact} {hdst : dst.view.WordExact}
    {hsem : DmaTarget.Typed .vmem (.dma (rSem l t)) (.remote (Dev.tc (dn l c) : Thread nD τ) dst (.dma (sSem l t)) hsc)}
    {k : PUnit → Prog (TpuEff nD τ sig (Elt F) Λ₀ .tc) α} {Q : α → sProp 𝕄} {X : S768x384.Idx → Elt F .bf16} {E : sProp 𝕄}
    (hN : dst.view.dmaCredit = N) (hn : snt l = t.val) (h1 : owns (c : Thread nD τ) src fullShare X ⊢ sendPay m l t c)
    (h2 : iprop(owns (dn l c : Thread nD τ) dst fullShare X ∗ E) ⊢ recvPay m l t (dn l c)) :
    iprop(Recs m K ∗ (∃ W, owes (c : Thread nD τ) (owed c snt b) W) ∗ owns (c : Thread nD τ) src fullShare X ∗ anyOwn (dn l c) dst ∗ E
        ∗ dutyTok ER (sCell l t c) 0 false ∗ dutyTok ER (rCell l t (dn l c)) 0 false)
      ⊢ iprop((iprop(Recs m K ∗ (∃ W, owes (c : Thread nD τ) (owed c (updN snt l (t.val + 1)) b) W) ∗ cred (tallyAt (sCell l t c) () N)) -∗ W c (k ⟨⟩) Q)
          -∗ W c (.op (.enqueueDma src (.remote (Dev.tc (dn l c) : Thread nD τ) dst (.dma (sSem l t)) hsc) (.dma (rSem l t)) hsrc hdst hsem) k) Q) := by
  unfold anyOwn owns
  iintro ⟨#HR, ⟨%Wt, HO⟩, ⟨%fs, %hfs, Hs⟩, ⟨%Y, %fd, -, Hd⟩, HE, Ht1, Ht2⟩ Hk
  subst hfs
  iapply (Rounds.wp_send_pointsTo_with 𝒱₀ ER (Rd m) (c : Thread nD τ) none (κ₁ := K (c, some (false, l, t))) (κ₂ := K (dn l c, some (true, l, t)))
    (r₁ := 0) (r₂ := 0) (d₁ := false) (d₂ := false) (fs := fs) (fd := fd) (F := E) (q := fullShare) (W := Wt)
    (by rw [duties_dma m c _ (ge_s l t)]; exact Finset.mem_singleton_self _) (by rw [duties_dma m (dn l c) _ (ge_r l t)]; exact Finset.mem_singleton_self _)
    () () N (show dst.view.amount (.dma (rSem l t)) = N from hN) (amount_dma m c _ false) (amount_dma m (dn l c) _ false) (owed c (updN snt l (t.val + 1)) b) (owed_step c snt b l t hn)
    (by
      rw [pay_s]
      refine BIBase.Entails.trans ?_ h1
      unfold owns
      iintro Hs
      iexists fs
      isplitr; · (ipureintro; rfl)
      iexact Hs) (by
      rw [pay_r]
      refine BIBase.Entails.trans ?_ h2
      unfold owns
      iintro ⟨Hd, HE⟩
      isplitl [Hd]
      · iexists _
        isplitr
        swap; · iexact Hd
        ipureintro; exact View.read_write_univ fd _
      iexact HE)) $$ [HO Hs Hd HE Ht1 Ht2]
  · isplitr; · iapply (recs_inv m K (c, some (false, l, t))); iexact HR
    isplitr; · iapply (recs_inv m K (dn l c, some (true, l, t))); iexact HR
    isplitl [Hs]; · iexact Hs
    isplitl [Hd HE]; · (isplitl [Hd] <;> iassumption)
    isplitl [HO]; · iexact HO
    isplitl [Ht1]; · iexact Ht1
    isplitr; · iapply (recs_reached m K (c, some (false, l, t))); iexact HR
    isplitl [Ht2]; · iexact Ht2
    iapply (recs_reached m K (dn l c, some (true, l, t))); iexact HR
  iintro ⟨Hc, HO⟩
  iapply Hk
  isplitr; · iexact HR
  isplitl [HO]; · (iexists _; iexact HO)
  iexact Hc

theorem ring_wait {q : DmaSem sig} (hq : 5 ≤ q.val) (x : CIx) (hx : rcell (c, x) = ((c : Thread nD τ), .dma q)) {sp : Space} {s s' : Shape} {e e' : EltTy}
    {src : Memref sig .tc sp s' e'} {dst : Memref sig .tc .vmem s e}
    {hsrc : src.view.WordExact} {hdst : dst.view.WordExact} {k : PUnit → Prog (TpuEff nD τ sig (Elt F) Λ₀ .tc) α} {Q : α → sProp 𝕄} (n : ℕ)
    (hN : dst.view.dmaCredit = N) (hlv : lv ((c : Thread nD τ), .dma q) () = n) (hb : b < 2 → n < 1) (hn : ∀ l, n < snt l + 2) :
    iprop(Recs m K ∗ (∃ W, owes (c : Thread nD τ) (owed c snt b) W) ∗ cred (tallyAt ((c : Thread nD τ), .dma q) () N) ∗ atPos ER ((c : Thread nD τ), .dma q) 0 ∅ 0)
      ⊢ iprop((iprop(Recs m K ∗ (∃ W, owes (c : Thread nD τ) (owed c snt b) W) ∗ semVal ((c : Thread nD τ), .dma q) 0
              ∗ (Rd m).payload ((c : Thread nD τ), .dma q) 0 false) -∗ W c (k ⟨⟩) Q)
          -∗ W c (.op (.waitDma2 q src dst hsrc hdst) k) Q) := by
  iintro ⟨#HR, ⟨%Wt, HO⟩, Hc, Ha⟩ Hk
  have hI : Recs m K ⊢ cellInv ER (Rd m) (K (c, x)) ((c : Thread nD τ), .dma q) := by rw [← hx]; exact recs_inv m K (c, x)
  iapply (Rounds.wp_wait_rest_token 𝒱₀ ER (Rd m) (c : Thread nD τ) none (κ := K (c, x))
      (wpE_waitDma2_eq 𝒱₀ (c : Thread nD τ) none Set.univ) (Set.mem_univ _) () (O := owed c snt b) (W := Wt) (R := 0) (m := 0) (T := ∅)
      (by rw [expect_dma m c q hq, zero_add]; exact hN)) $$ [Ha Hc HO]
  · isplitr; · iapply hI; iexact HR
    isplitl [Hc]; · rw [hN]; iexact Hc
    isplitl [HO]; · iexact HO
    isplitr
    · iapply (mayWait_of c (.dma q) snt b n hlv hb hn)
      iapply (recs_levs m K); iexact HR
    iexact Ha
  iintro ⟨HO, Ha, -, Hp⟩
  ihave Hp := (Entails.of_eq (rest_dma m c q hq)) $$ Hp
  imod (Rounds.cell_close ER (Rd m) (g := ((c : Thread nD τ), .dma q)) (R := 0 + 1) (Set.mem_univ (K (c, x))) (fun h => h) (duties_later m _)) $$ [Ha] with Hv
  · isplitr; · iapply hI; iexact HR
    iexact Ha
  iapply Hk
  isplitr; · iexact HR
  isplitl [HO]; · (iexists _; iexact HO)
  isplitl [Hv] <;> iassumption

theorem creditOut (l : Lane) (j : Dev nD) : (outM l j).view.dmaCredit = N := rfl
theorem creditSlot (l : Lane) (s : Fin 3) : (slotM l s).view.dmaCredit = N := by
  unfold slotM commM; split <;> rfl

end Ops

end Cert.KernelIdeal.Hand
-- ==== Proof.Hops.lean ====
/-
# The ring's steps on the state

The six sends of a lane and the waits for them, as changes of the pieces' phases.
-/
module

public import proofs.«01_k».proof.Proof.RingSteps

@[expose] public section

noncomputable section

namespace Cert.KernelIdeal.Hand

open Cert.KernelIdeal Cert.KernelIdeal.Gen
open Idealize.ShloMosaic
open Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD)

/-! ## Three pieces at a time -/

theorem st_open3 {σ : I → Ph} {snt : Lane → ℕ} {b : ℕ} (i j k : I) {u v w : Ph} (hi : σ i = u) (hj : σ j = v) (hk : σ k = w)
    (hji : j ≠ i) (hki : k ≠ i) (hkj : k ≠ j) :
    St m K c σ snt b ⊢ iprop(Recs m K ∗ (∃ W, owes (c : Thread nD τ) (owed c snt b) W) ∗ (R m c i u ∗ R m c j v ∗ R m c k w)
      ∗ Hold m c σ (insert k (insert j {i})) ∗ bars (F := F) c snt b) := by
  refine (st_open m K c i hi).trans ?_
  iintro ⟨HR, HO, Hi, HH, HB⟩
  ihave H := (hold_take m c (S := {i}) j hj (by simpa using hji)) $$ HH
  icases H with ⟨Hj, HH⟩
  ihave H := (hold_take m c (S := insert j {i}) k hk (by simp [hkj, hki])) $$ HH
  icases H with ⟨Hk, HH⟩
  isplitl [HR]; · iexact HR
  isplitl [HO]; · iexact HO
  isplitl [Hi Hj Hk]
  · isplitl [Hi]; · iexact Hi
    isplitl [Hj] <;> iassumption
  isplitl [HH] <;> iassumption

theorem st_close3 {σ : I → Ph} {snt : Lane → ℕ} {b : ℕ} (i j k : I) (u v w : Ph) (hji : j ≠ i) (hki : k ≠ i) (hkj : k ≠ j) :
    iprop(Recs m K ∗ (∃ W, owes (c : Thread nD τ) (owed c snt b) W) ∗ (R m c i u ∗ R m c j v ∗ R m c k w)
      ∗ Hold m c σ (insert k (insert j {i})) ∗ bars (F := F) c snt b) ⊢ St m K c (upd (upd (upd σ k w) j v) i u) snt b := by
  iintro ⟨HR, HO, ⟨Hi, Hj, Hk⟩, HH, HB⟩
  iapply (st_close m K c i u)
  isplitl [HR]; · iexact HR
  isplitl [HO]; · iexact HO
  isplitl [Hi]; · iexact Hi
  isplitl [HH Hj Hk]
  · iapply (hold_put m c (S := {i}) j v (by simpa using hji))
    isplitl [Hj]; · iexact Hj
    iapply (hold_put m c (S := insert j {i}) k w (by simp [hkj, hki]))
    isplitl [Hk] <;> iassumption
  iexact HB

theorem ctl_raw (l : Lane) (t : Fin 6) : R m c (.ctl l t) .raw = iprop(dutyTok ER (sCell l t c) 0 false ∗ dutyTok ER (rCell l t (dn l c)) 0 false
    ∗ atPos ER (sCell l t c) 0 ∅ 0 ∗ atPos ER (rCell l t c) 0 ∅ 0 ∗ cred (tallyAt (rCell l t c) () N)) := rfl
theorem ctl_sent (l : Lane) (t : Fin 6) : R m c (.ctl l t) .sent = iprop(cred (tallyAt (sCell l t c) () N) ∗ atPos ER (sCell l t c) 0 ∅ 0
      ∗ atPos ER (rCell l t c) 0 ∅ 0 ∗ cred (tallyAt (rCell l t c) () N)) := rfl
theorem ctl_left (l : Lane) (t : Fin 6) : R m c (.ctl l t) .left
    = iprop(semVal (sCell l t c) 0 ∗ atPos ER (rCell l t c) 0 ∅ 0 ∗ cred (tallyAt (rCell l t c) () N)) := rfl
theorem ctl_done (l : Lane) (t : Fin 6) : R m c (.ctl l t) .done = iprop(semVal (sCell l t c) 0 ∗ semVal (rCell l t c) 0) := rfl

section Ops
variable {α : Type} {σ : I → Ph} {snt : Lane → ℕ} {b : ℕ}

/-! ## Sending a partial sum: its source block is handed on with it -/

abbrev suc (s : Fin 3) : Fin 4 := ⟨s.val + 1, by omega⟩
abbrev cst (s : Fin 3) : Fin 4 := ⟨s.val, by omega⟩

theorem landed_sum (l : Lane) (s : Fin 3) : landed m l (dn l c) (loS s) = owns (dn l c : Thread nD τ) (slotM l s) fullShare (sVal m l s.val c (bk l c (s.val + 1))) := by
  match s with
  | 0 =>
    show owns (dn l c : Thread nD τ) (slotM l 0) fullShare (sVal m l 0 (up l (dn l c)) (bk l (dn l c) 2)) = _
    rw [up_dn, show bk l (dn l c) 2 = bk l c 1 from bk_dn l c 1]; rfl
  | 1 =>
    show owns (dn l c : Thread nD τ) (slotM l 1) fullShare (sVal m l 1 (up l (dn l c)) (bk l (dn l c) 3)) = _
    rw [up_dn, show bk l (dn l c) 3 = bk l c 2 from bk_dn l c 2]; rfl
  | 2 =>
    show owns (dn l c : Thread nD τ) (slotM l 2) fullShare (sVal m l 2 (up l (dn l c)) (bk l (dn l c) 0)) = _
    rw [up_dn, ← bk_four, show bk l (dn l c) 4 = bk l c 3 from bk_dn l c 3]; rfl

theorem sendPay_lo (l : Lane) (s : Fin 3) : sendPay (F := F) m l (loS s) c = iprop(emp) := by
  match s with | 0 => rfl | 1 => rfl | 2 => rfl
theorem sendPay_hi (l : Lane) (a : Fin 3) : sendPay m l (hiS a) c = owns (c : Thread nD τ) (outM l (bk l c a.val)) fullShare (fVal m l (bk l c a.val)) := by
  match a with | 0 => rfl | 1 => rfl | 2 => rfl
theorem recvPay_sum (l : Lane) (s : Fin 3) : recvPay m l (loS s) (dn l c)
    = iprop(owns (dn l c : Thread nD τ) (slotM l s) fullShare (sVal m l s.val c (bk l c (s.val + 1))) ∗ oth l (rowOf l (dn l c) (loS s)) (dn l c) (loS s)) := by
  unfold recvPay; rw [landed_sum]
theorem recvPay_fin (l : Lane) (a : Fin 3) : recvPay m l (hiS a) (dn l c)
    = iprop(owns (dn l c : Thread nD τ) (outM l (bk l c a.val)) fullShare (fVal m l (bk l c a.val)) ∗ oth l (bk l c a.val) (dn l c) (hiS a)) := by
  have e1 : landed m l (dn l c) (hiS a) = owns (dn l c : Thread nD τ) (outM l (bk l c a.val)) fullShare (fVal m l (bk l c a.val)) := by
    match a with
    | 0 => exact (congrArg (fun j => owns (dn l c : Thread nD τ) (outM l j) fullShare (fVal m l j)) (bk_dn l c 0))
    | 1 => exact (congrArg (fun j => owns (dn l c : Thread nD τ) (outM l j) fullShare (fVal m l j)) (bk_dn l c 1))
    | 2 => exact (congrArg (fun j => owns (dn l c : Thread nD τ) (outM l j) fullShare (fVal m l j)) (bk_dn l c 2))
  have e2 : rowOf l (dn l c) (hiS a) = bk l c a.val := by
    match a with
    | 0 => exact bk_dn l c 0
    | 1 => exact bk_dn l c 1
    | 2 => exact bk_dn l c 2
  unfold recvPay; rw [e1, e2]

/-- A lane's send of a partial sum, given what else is handed on (`E`, out of the piece `i`). -/
theorem st_sendSum (l : Lane) (s : Fin 3) (i : I) {v1 v3 : Ph} (w3 : Ph) {E : sProp 𝕄} {src dst : Memref sig .tc .vmem S768x384 .bf16} {d : Dev nD} {q q' : DmaSem sig}
    {hsc : (dst : Memref sig (Dev.tc d : Thread nD τ).2.kind .vmem S768x384 .bf16).view.ref.isScScratch = false}
    {hsrc : src.view.WordExact} {hdst : dst.view.WordExact} {hsem : DmaTarget.Typed .vmem (.dma q') (.remote (Dev.tc d : Thread nD τ) dst (.dma q) hsc)}
    {k : PUnit → Prog (TpuEff nD τ sig (Elt F) Λ₀ .tc) α} {Q : α → sProp 𝕄}
    (hrow : R m c (.row l (suc s)) v1 = owns (c : Thread nD τ) (outM l (bk l c (s.val + 1))) fullShare (sVal m l s.val c (bk l c (s.val + 1))))
    (hE : R m c i v3 ⊢ iprop(E ∗ R m c i w3))
    (hpay : iprop(E ∗ anyOwn c (outM l (bk l c (s.val + 1)))) ⊢ oth l (rowOf l (dn l c) (loS s)) (dn l c) (loS s))
    (h : St m K c (upd (upd (upd σ i w3) (.ctl l (loS s)) .sent) (.row l (suc s)) .gone) (updN snt l (s.val + 1)) 3 ⊢ W c (k ⟨⟩) Q)
    (hs : src = outM l (bk l c (s.val + 1))) (hdd : d = dn l c) (hd : dst = slotM l s) (hq : q = sSem l (loS s)) (hq' : q' = rSem l (loS s))
    (hi1 : σ (.row l (suc s)) = v1) (hi2 : σ (.ctl l (loS s)) = .raw) (hi3 : σ i = v3) (hn : snt l = s.val)
    (hne : i ≠ .row l (suc s)) (hne' : i ≠ .ctl l (loS s)) :
    St m K c σ snt 3 ⊢ W c (.op (.enqueueDma src (.remote (Dev.tc d : Thread nD τ) dst (.dma q) hsc) (.dma q') hsrc hdst hsem) k) Q := by
  subst hs hdd hd hq hq'
  refine (st_open3 m K c (.row l (suc s)) (.ctl l (loS s)) i hi1 hi2 hi3 (by simp) hne hne').trans ?_
  rw [hrow, ctl_raw, bars_3]
  iintro ⟨HR, HO, ⟨Hrow, ⟨Ht1, Ht2, Ha1, Ha2, Hc2⟩, Hi⟩, HH, HB, Hah⟩
  ihave Hi := hE $$ Hi
  icases Hi with ⟨HE, Hi⟩
  ihave Hah := (ahead_take (F := F) c l s hn) $$ Hah
  icases Hah with ⟨Hd, Hah⟩
  iapply (send_along m K c (snt := snt) (b := 3) l (loS s) (dst := slotM l s) (X := sVal m l s.val c (bk l c (s.val + 1))) (E := E) (creditSlot l s) hn
      (Entails.of_eq (sendPay_lo m c l s).symm)
      (by
        rw [recvPay_sum]
        iintro ⟨⟨Hd, HE⟩, Hs⟩
        isplitl [Hd]; · iexact Hd
        iapply hpay
        isplitl [HE]; · iexact HE
        unfold anyOwn; iexists _; iexact Hs)) $$ [HR HO Hrow Hd HE Ht1 Ht2]
  · isplitl [HR]; · iexact HR
    isplitl [HO]; · iexact HO
    isplitl [Hrow]; · iexact Hrow
    isplitl [Hd]; · iexact Hd
    isplitl [HE]; · iexact HE
    isplitl [Ht1] <;> iassumption
  iintro ⟨HR, HO, Hc⟩
  iapply h
  iapply (st_close3 m K c (.row l (suc s)) (.ctl l (loS s)) i .gone .sent w3 (by simp) hne hne')
  isplitl [HR]; · iexact HR
  isplitl [HO]; · iexact HO
  isplitl [Hi Hc Ha1 Ha2 Hc2]
  · isplitr; · (rw [show R m c (.row l (suc s)) .gone = iprop(emp) from rfl]; iempintro)
    isplitl [Hc Ha1 Ha2 Hc2]
    · rw [ctl_sent]
      isplitl [Hc]; · iexact Hc
      isplitl [Ha1]; · iexact Ha1
      isplitl [Ha2] <;> iassumption
    iexact Hi
  isplitl [HH]; · iexact HH
  rw [bars_3]
  isplitl [HB] <;> iassumption

section Send
variable {src dst : Memref sig .tc .vmem S768x384 .bf16} {d : Dev nD} {q q' : DmaSem sig}
    {hsc : (dst : Memref sig (Dev.tc d : Thread nD τ).2.kind .vmem S768x384 .bf16).view.ref.isScScratch = false}
    {hsrc : src.view.WordExact} {hdst : dst.view.WordExact} {hsem : DmaTarget.Typed .vmem (.dma q') (.remote (Dev.tc d : Thread nD τ) dst (.dma q) hsc)}
    {k : PUnit → Prog (TpuEff nD τ sig (Elt F) Λ₀ .tc) α}

/-- The first send of a lane: the block goes along, nothing else. -/
theorem st_send0 (l : Lane) {Q : α → sProp 𝕄}
    (h : St m K c (upd (upd (upd σ (.far l 2) .gone) (.ctl l 0) .sent) (.row l 1) .gone) (updN snt l 1) 3 ⊢ W c (k ⟨⟩) Q)
    (hs : src = outM l (bk l c 1) := by (refine slice_at _ _ ?_; revert c; decide +kernel)) (hdd : d = dn l c := by (revert c; decide +kernel))
    (hd : dst = slotM l 0 := by rfl) (hq : q = sSem l 0 := by rfl) (hq' : q' = rSem l 0 := by rfl)
    (hi1 : σ (.row l 1) = .own := by decide +kernel) (hi2 : σ (.ctl l 0) = .raw := by decide +kernel) (hi3 : σ (.far l 2) = .gone := by decide +kernel)
    (hn : snt l = 0 := by decide +kernel) :
    St m K c σ snt 3 ⊢ W c (.op (.enqueueDma src (.remote (Dev.tc d : Thread nD τ) dst (.dma q) hsc) (.dma q') hsrc hdst hsem) k) Q :=
  st_sendSum m K c l 0 (.far l 2) (v1 := .own) (v3 := .gone) .gone (E := iprop(emp)) rfl
    (by rw [show R m c (.far l 2) .gone = iprop(emp) from rfl]; iintro -; isplitr <;> iempintro)
    (by
      show iprop(emp ∗ anyOwn c (outM l (bk l c 1))) ⊢ anyOwn (bk l (dn l c) 1) (outM l (bk l (dn l c) 2))
      rw [show bk l (dn l c) 1 = c from up_dn l c, show bk l (dn l c) 2 = bk l c 1 from bk_dn l c 1]
      iintro ⟨-, H⟩; iexact H)
    h hs hdd hd hq hq' hi1 hi2 hi3 hn (by simp) (by simp)

/-- The second: the block received before stays with the sum's way. -/
theorem st_send1 (l : Lane) {Q : α → sProp 𝕄}
    (h : St m K c (upd (upd (upd σ (.arr l 0) .free) (.ctl l 1) .sent) (.row l 2) .gone) (updN snt l 2) 3 ⊢ W c (k ⟨⟩) Q)
    (hs : src = outM l (bk l c 2) := by (refine slice_at _ _ ?_; revert c; decide +kernel)) (hdd : d = dn l c := by (revert c; decide +kernel))
    (hd : dst = slotM l 1 := by rfl) (hq : q = sSem l 1 := by rfl) (hq' : q' = rSem l 1 := by rfl)
    (hi1 : σ (.row l 2) = .sum := by decide +kernel) (hi2 : σ (.ctl l 1) = .raw := by decide +kernel) (hi3 : σ (.arr l 0) = .used := by decide +kernel)
    (hn : snt l = 1 := by decide +kernel) :
    St m K c σ snt 3 ⊢ W c (.op (.enqueueDma src (.remote (Dev.tc d : Thread nD τ) dst (.dma q) hsc) (.dma q') hsrc hdst hsem) k) Q :=
  st_sendSum m K c l 1 (.arr l 0) (v1 := .sum) (v3 := .used) .free (E := oth l (bk l c 2) c 0) rfl
    (by
      rw [show R m c (.arr l 0) .used = iprop(anyOwn c (slotM l 0) ∗ oth l (bk l c 2) c 0) from rfl, show R m c (.arr l 0) .free = anyOwn c (slotM l 0) from rfl]
      iintro ⟨H, H'⟩; isplitl [H'] <;> iassumption)
    (by
      show iprop(anyOwn (bk l c 1) (outM l (bk l c 2)) ∗ anyOwn c (outM l (bk l c 2)))
        ⊢ iprop(anyOwn (bk l (dn l c) 1) (outM l (bk l (dn l c) 3)) ∗ anyOwn (bk l (dn l c) 2) (outM l (bk l (dn l c) 3)))
      rw [show bk l (dn l c) 1 = c from up_dn l c, show bk l (dn l c) 2 = bk l c 1 from bk_dn l c 1, show bk l (dn l c) 3 = bk l c 2 from bk_dn l c 2]
      iintro ⟨H, H'⟩; isplitl [H'] <;> iassumption)
    h hs hdd hd hq hq' hi1 hi2 hi3 hn (by simp) (by simp)

theorem st_send2 (l : Lane) {Q : α → sProp 𝕄}
    (h : St m K c (upd (upd (upd σ (.arr l 1) .free) (.ctl l 2) .sent) (.row l 3) .gone) (updN snt l 3) 3 ⊢ W c (k ⟨⟩) Q)
    (hs : src = outM l (bk l c 3) := by (refine slice_at _ _ ?_; revert c; decide +kernel)) (hdd : d = dn l c := by (revert c; decide +kernel))
    (hd : dst = slotM l 2 := by rfl) (hq : q = sSem l 2 := by rfl) (hq' : q' = rSem l 2 := by rfl)
    (hi1 : σ (.row l 3) = .sum := by decide +kernel) (hi2 : σ (.ctl l 2) = .raw := by decide +kernel) (hi3 : σ (.arr l 1) = .used := by decide +kernel)
    (hn : snt l = 2 := by decide +kernel) :
    St m K c σ snt 3 ⊢ W c (.op (.enqueueDma src (.remote (Dev.tc d : Thread nD τ) dst (.dma q) hsc) (.dma q') hsrc hdst hsem) k) Q :=
  st_sendSum m K c l 2 (.arr l 1) (v1 := .sum) (v3 := .used) .free (E := oth l (bk l c 3) c 1) rfl
    (by
      rw [show R m c (.arr l 1) .used = iprop(anyOwn c (slotM l 1) ∗ oth l (bk l c 3) c 1) from rfl, show R m c (.arr l 1) .free = anyOwn c (slotM l 1) from rfl]
      iintro ⟨H, H'⟩; isplitl [H'] <;> iassumption)
    (by
      show iprop((anyOwn (bk l c 1) (outM l (bk l c 3)) ∗ anyOwn (bk l c 2) (outM l (bk l c 3))) ∗ anyOwn c (outM l (bk l c 3)))
        ⊢ iprop(anyOwn (bk l (dn l c) 1) (outM l (bk l (dn l c) 0)) ∗ anyOwn (bk l (dn l c) 2) (outM l (bk l (dn l c) 0))
            ∗ anyOwn (bk l (dn l c) 3) (outM l (bk l (dn l c) 0)))
      rw [show bk l (dn l c) 1 = c from up_dn l c, show bk l (dn l c) 2 = bk l c 1 from bk_dn l c 1, show bk l (dn l c) 3 = bk l c 2 from bk_dn l c 2,
        ← bk_four l (dn l c), show bk l (dn l c) 4 = bk l c 3 from bk_dn l c 3]
      iintro ⟨⟨H1, H2⟩, H3⟩; isplitl [H3]; · iexact H3
      isplitl [H1] <;> iassumption)
    h hs hdd hd hq hq' hi1 hi2 hi3 hn (by simp) (by simp)

/-! ## Sending a finished block: it comes back when the send has left -/

/-- A lane's send of a finished block, the landing place and what else is handed on (`E`) out of the piece `i`. -/
theorem st_sendFin (l : Lane) (a : Fin 3) (i : I) {v1 v3 : Ph} (w3 : Ph) {E : sProp 𝕄} {Q : α → sProp 𝕄}
    (hrow : R m c (.row l (cst a)) v1 = owns (c : Thread nD τ) (outM l (bk l c a.val)) fullShare (fVal m l (bk l c a.val)))
    (hE : R m c i v3 ⊢ iprop(anyOwn (dn l c) (outM l (bk l c a.val)) ∗ E ∗ R m c i w3))
    (hpay : E ⊢ oth l (bk l c a.val) (dn l c) (hiS a))
    (h : St m K c (upd (upd (upd σ i w3) (.ctl l (hiS a)) .sent) (.row l (cst a)) .gone) (updN snt l (a.val + 4)) 3 ⊢ W c (k ⟨⟩) Q)
    (hs : src = outM l (bk l c a.val)) (hdd : d = dn l c) (hd : dst = outM l (bk l c a.val)) (hq : q = sSem l (hiS a)) (hq' : q' = rSem l (hiS a))
    (hi1 : σ (.row l (cst a)) = v1) (hi2 : σ (.ctl l (hiS a)) = .raw) (hi3 : σ i = v3) (hn : snt l = a.val + 3)
    (hne : i ≠ .row l (cst a)) (hne' : i ≠ .ctl l (hiS a)) :
    St m K c σ snt 3 ⊢ W c (.op (.enqueueDma src (.remote (Dev.tc d : Thread nD τ) dst (.dma q) hsc) (.dma q') hsrc hdst hsem) k) Q := by
  subst hs hdd hq hq'
  obtain rfl := hd
  refine (st_open3 m K c (.row l (cst a)) (.ctl l (hiS a)) i hi1 hi2 hi3 (by simp) hne hne').trans ?_
  rw [hrow, ctl_raw, bars_3]
  iintro ⟨HR, HO, ⟨Hrow, ⟨Ht1, Ht2, Ha1, Ha2, Hc2⟩, Hi⟩, HH, HB, Hah⟩
  ihave Hi := hE $$ Hi
  icases Hi with ⟨Hd, HE, Hi⟩
  iapply (send_back m K c (snt := snt) (b := 3) l (hiS a) (dst := outM l (bk l c a.val)) (X := fVal m l (bk l c a.val)) (E := E) (creditOut l _) hn
      (Entails.of_eq (sendPay_hi m c l a).symm)
      (by
        rw [recvPay_fin]
        iintro ⟨Hd, HE⟩
        isplitl [Hd]; · iexact Hd
        iapply hpay; iexact HE)) $$ [HR HO Hrow Hd HE Ht1 Ht2]
  · isplitl [HR]; · iexact HR
    isplitl [HO]; · iexact HO
    isplitl [Hrow]; · iexact Hrow
    isplitl [Hd]; · iexact Hd
    isplitl [HE]; · iexact HE
    isplitl [Ht1] <;> iassumption
  iintro ⟨HR, HO, Hc⟩
  iapply h
  iapply (st_close3 m K c (.row l (cst a)) (.ctl l (hiS a)) i .gone .sent w3 (by simp) hne hne')
  isplitl [HR]; · iexact HR
  isplitl [HO]; · iexact HO
  isplitl [Hi Hc Ha1 Ha2 Hc2]
  · isplitr; · (rw [show R m c (.row l (cst a)) .gone = iprop(emp) from rfl]; iempintro)
    isplitl [Hc Ha1 Ha2 Hc2]
    · rw [ctl_sent]
      isplitl [Hc]; · iexact Hc
      isplitl [Ha1]; · iexact Ha1
      isplitl [Ha2] <;> iassumption
    iexact Hi
  isplitl [HH]; · iexact HH
  rw [bars_3, ahead_same (F := F) c l (a.val + 4) (by omega) (by omega)]
  isplitl [HB] <;> iassumption

theorem st_send3 (l : Lane) {Q : α → sProp 𝕄}
    (h : St m K c (upd (upd (upd σ (.arr l 2) .free) (.ctl l 3) .sent) (.row l 0) .gone) (updN snt l 4) 3 ⊢ W c (k ⟨⟩) Q)
    (hs : src = outM l (bk l c 0) := by (refine slice_at _ _ ?_; revert c; decide +kernel)) (hdd : d = dn l c := by (revert c; decide +kernel))
    (hd : dst = outM l (bk l c 0) := by (refine slice_at _ _ ?_; revert c; decide +kernel)) (hq : q = sSem l 3 := by rfl) (hq' : q' = rSem l 3 := by rfl)
    (hi1 : σ (.row l 0) = .sum := by decide +kernel) (hi2 : σ (.ctl l 3) = .raw := by decide +kernel) (hi3 : σ (.arr l 2) = .used := by decide +kernel)
    (hn : snt l = 3 := by decide +kernel) :
    St m K c σ snt 3 ⊢ W c (.op (.enqueueDma src (.remote (Dev.tc d : Thread nD τ) dst (.dma q) hsc) (.dma q') hsrc hdst hsem) k) Q :=
  st_sendFin m K c l 0 (.arr l 2) (v1 := .sum) (v3 := .used) .free (E := iprop(anyOwn (bk l c 1) (outM l (bk l c 0)) ∗ anyOwn (bk l c 2) (outM l (bk l c 0))))
    (by
      show owns _ _ _ (sVal m l 3 c (bk l c 0)) = owns _ _ _ (sVal m l 3 (bk l c 0) (bk l c 0))
      congr 1
      exact congrArg (fun d => sVal m l 3 d (bk l c 0)) (bk_zero l c).symm)
    (by
      rw [show R m c (.arr l 2) .used = iprop(anyOwn c (slotM l 2) ∗ anyOwn (bk l c 1) (outM l (bk l c 0)) ∗ anyOwn (bk l c 2) (outM l (bk l c 0))
          ∗ anyOwn (bk l c 3) (outM l (bk l c 0))) from rfl, show R m c (.arr l 2) .free = anyOwn c (slotM l 2) from rfl, bk_three]
      iintro ⟨H, H1, H2, H3⟩
      isplitl [H3]; · iexact H3
      isplitl [H1 H2]; · (isplitl [H1] <;> iassumption)
      iexact H)
    (by
      show _ ⊢ iprop(anyOwn (bk l (dn l c) 2) (outM l (bk l c 0)) ∗ anyOwn (bk l (dn l c) 3) (outM l (bk l c 0)))
      rw [show bk l (dn l c) 2 = bk l c 1 from bk_dn l c 1, show bk l (dn l c) 3 = bk l c 2 from bk_dn l c 2])
    h hs hdd hd hq hq' hi1 hi2 hi3 hn (by simp) (by simp)

theorem st_send4 (l : Lane) {Q : α → sProp 𝕄}
    (h : St m K c (upd (upd (upd σ (.far l 0) .gone) (.ctl l 4) .sent) (.row l 1) .gone) (updN snt l 5) 3 ⊢ W c (k ⟨⟩) Q)
    (hs : src = outM l (bk l c 1) := by (refine slice_at _ _ ?_; revert c; decide +kernel)) (hdd : d = dn l c := by (revert c; decide +kernel))
    (hd : dst = outM l (bk l c 1) := by (refine slice_at _ _ ?_; revert c; decide +kernel)) (hq : q = sSem l 4 := by rfl) (hq' : q' = rSem l 4 := by rfl)
    (hi1 : σ (.row l 1) = .fin := by decide +kernel) (hi2 : σ (.ctl l 4) = .raw := by decide +kernel) (hi3 : σ (.far l 0) = .here := by decide +kernel)
    (hn : snt l = 4 := by decide +kernel) :
    St m K c σ snt 3 ⊢ W c (.op (.enqueueDma src (.remote (Dev.tc d : Thread nD τ) dst (.dma q) hsc) (.dma q') hsrc hdst hsem) k) Q :=
  st_sendFin m K c l 1 (.far l 0) (v1 := .fin) (v3 := .here) .gone (E := anyOwn (bk l c 2) (outM l (bk l c 1))) rfl
    (by
      rw [show R m c (.far l 0) .here = iprop(anyOwn (bk l c 2) (outM l (bk l c 1)) ∗ anyOwn (bk l c 3) (outM l (bk l c 1))) from rfl,
        show R m c (.far l 0) .gone = iprop(emp) from rfl, bk_three]
      iintro ⟨H2, H3⟩
      isplitl [H3]; · iexact H3
      isplitl [H2]; · iexact H2
      iempintro)
    (by
      show _ ⊢ anyOwn (bk l (dn l c) 3) (outM l (bk l c 1))
      rw [show bk l (dn l c) 3 = bk l c 2 from bk_dn l c 2])
    h hs hdd hd hq hq' hi1 hi2 hi3 hn (by simp) (by simp)

theorem st_send5 (l : Lane) {Q : α → sProp 𝕄}
    (h : St m K c (upd (upd (upd σ (.far l 1) .gone) (.ctl l 5) .sent) (.row l 2) .gone) (updN snt l 6) 3 ⊢ W c (k ⟨⟩) Q)
    (hs : src = outM l (bk l c 2) := by (refine slice_at _ _ ?_; revert c; decide +kernel)) (hdd : d = dn l c := by (revert c; decide +kernel))
    (hd : dst = outM l (bk l c 2) := by (refine slice_at _ _ ?_; revert c; decide +kernel)) (hq : q = sSem l 5 := by rfl) (hq' : q' = rSem l 5 := by rfl)
    (hi1 : σ (.row l 2) = .fin := by decide +kernel) (hi2 : σ (.ctl l 5) = .raw := by decide +kernel) (hi3 : σ (.far l 1) = .here := by decide +kernel)
    (hn : snt l = 5 := by decide +kernel) :
    St m K c σ snt 3 ⊢ W c (.op (.enqueueDma src (.remote (Dev.tc d : Thread nD τ) dst (.dma q) hsc) (.dma q') hsrc hdst hsem) k) Q :=
  st_sendFin m K c l 2 (.far l 1) (v1 := .fin) (v3 := .here) .gone (E := iprop(emp)) rfl
    (by
      rw [show R m c (.far l 1) .here = anyOwn (bk l c 3) (outM l (bk l c 2)) from rfl,
        show R m c (.far l 1) .gone = iprop(emp) from rfl, bk_three]
      iintro H3
      isplitl [H3]; · iexact H3
      isplitr <;> iempintro)
    (Entails.refl _)
    h hs hdd hd hq hq' hi1 hi2 hi3 hn (by simp) (by simp)
end Send

/-! ## The waits -/

section Wait
variable {q : DmaSem sig} {sp : Space} {s₁ s₂ : Shape} {e₁ e₂ : EltTy} {src : Memref sig .tc sp s₁ e₁} {dst : Memref sig .tc .vmem s₂ e₂}
    {hsrc : src.view.WordExact} {hdst : dst.view.WordExact} {k : PUnit → Prog (TpuEff nD τ sig (Elt F) Λ₀ .tc) α}

/-- A send has left; `w` is what the piece `i` becomes by what comes back. -/
theorem st_left (l : Lane) (t : Fin 6) (i : I) (w : Ph) {Q : α → sProp 𝕄}
    (hpay : sendPay m l t c ⊢ R m c i w)
    (h : St m K c (upd (upd σ i w) (.ctl l t) .left) snt 3 ⊢ W c (k ⟨⟩) Q)
    (hq : q = sSem l t) (hN : dst.view.dmaCredit = N) (hi1 : σ (.ctl l t) = .sent) (hi2 : σ i = .gone) (hg : R m c i .gone = iprop(emp)) (hne : i ≠ .ctl l t) :
    St m K c σ snt 3 ⊢ W c (.op (.waitDma2 q src dst hsrc hdst) k) Q := by
  subst hq
  refine (st_open m K c (.ctl l t) hi1).trans ?_
  rw [ctl_sent]
  iintro ⟨HR, HO, ⟨Hc, Ha, Hr⟩, HH, HB⟩
  ihave H := (hold_take m c (S := {.ctl l t}) i hi2 (by simpa using hne)) $$ HH
  icases H with ⟨-, HH⟩
  iapply (ring_wait m K c (snt := snt) (b := 3) (ge_s l t) (some (false, l, t)) rfl 0 hN (lv_s l t c) (fun h => absurd h (by decide)) (fun l => by omega)) $$ [HR HO Hc Ha]
  · isplitl [HR]; · iexact HR
    isplitl [HO]; · iexact HO
    isplitl [Hc] <;> iassumption
  iintro ⟨HR, HO, Hv, Hp⟩
  ihave Hp := ((Entails.of_eq (pay_s m c l t false)).trans hpay) $$ Hp
  iapply h
  iapply (st_close m K c (.ctl l t) .left)
  isplitl [HR]; · iexact HR
  isplitl [HO]; · iexact HO
  isplitl [Hv Hr]
  · rw [ctl_left]
    isplitl [Hv] <;> iassumption
  isplitl [HH Hp]
  · iapply (hold_put m c (S := {.ctl l t}) i w (by simpa using hne))
    isplitl [Hp] <;> iassumption
  iexact HB

theorem st_leftSum (l : Lane) (s : Fin 3) {Q : α → sProp 𝕄} (h : St m K c (upd (upd σ (.far l 2) .gone) (.ctl l (loS s)) .left) snt 3 ⊢ W c (k ⟨⟩) Q)
    (hq : q = sSem l (loS s) := by rfl) (hN : dst.view.dmaCredit = N := by rfl) (hi1 : σ (.ctl l (loS s)) = .sent := by decide +kernel)
    (hi2 : σ (.far l 2) = .gone := by decide +kernel) :
    St m K c σ snt 3 ⊢ W c (.op (.waitDma2 q src dst hsrc hdst) k) Q :=
  st_left m K c l (loS s) (.far l 2) .gone (Entails.of_eq (sendPay_lo m c l s))
    h hq hN hi1 hi2 rfl (by simp)

theorem st_leftFin (l : Lane) (a : Fin 3) {Q : α → sProp 𝕄} (h : St m K c (upd (upd σ (.row l (cst a)) .fin) (.ctl l (hiS a)) .left) snt 3 ⊢ W c (k ⟨⟩) Q)
    (hq : q = sSem l (hiS a) := by rfl) (hN : dst.view.dmaCredit = N := by rfl) (hi1 : σ (.ctl l (hiS a)) = .sent := by decide +kernel)
    (hi2 : σ (.row l (cst a)) = .gone := by decide +kernel) :
    St m K c σ snt 3 ⊢ W c (.op (.waitDma2 q src dst hsrc hdst) k) Q :=
  st_left m K c l (hiS a) (.row l (cst a)) .fin (Entails.of_eq (sendPay_hi m c l a))
    h hq hN hi1 hi2 rfl (by simp)

/-- A transfer has arrived, and makes the pieces `i` and `j` what they are. -/
theorem st_came (l : Lane) (t : Fin 6) (i j : I) (u w : Ph) {Q : α → sProp 𝕄}
    (hpay : recvPay m l t c ⊢ iprop(R m c i u ∗ R m c j w))
    (h : St m K c (upd (upd (upd σ j w) i u) (.ctl l t) .done) snt 3 ⊢ W c (k ⟨⟩) Q)
    (hq : q = rSem l t) (hN : dst.view.dmaCredit = N) (hn : ∀ l', t.val + 2 < snt l' + 2) (hi1 : σ (.ctl l t) = .left) (hi2 : σ i = .gone) (hi3 : σ j = .gone)
    (hne : i ≠ .ctl l t) (hne' : j ≠ .ctl l t) (hij : j ≠ i) :
    St m K c σ snt 3 ⊢ W c (.op (.waitDma2 q src dst hsrc hdst) k) Q := by
  subst hq
  refine (st_open3 m K c (.ctl l t) i j hi1 hi2 hi3 hne hne' hij).trans ?_
  rw [ctl_left]
  iintro ⟨HR, HO, ⟨⟨Hv, Ha, Hc⟩, -, -⟩, HH, HB⟩
  iapply (ring_wait m K c (snt := snt) (b := 3) (ge_r l t) (some (true, l, t)) rfl (t.val + 2) hN (lv_r l t c) (fun h => absurd h (by decide)) hn) $$ [HR HO Hc Ha]
  · isplitl [HR]; · iexact HR
    isplitl [HO]; · iexact HO
    isplitl [Hc] <;> iassumption
  iintro ⟨HR, HO, Hv', Hp⟩
  ihave Hp := ((Entails.of_eq (pay_r m c l t false)).trans hpay) $$ Hp
  icases Hp with ⟨Hi, Hj⟩
  iapply h
  iapply (st_close3 m K c (.ctl l t) i j .done u w hne hne' hij)
  isplitl [HR]; · iexact HR
  isplitl [HO]; · iexact HO
  isplitl [Hv Hv' Hi Hj]
  · isplitl [Hv Hv']
    · rw [ctl_done]
      isplitl [Hv] <;> iassumption
    isplitl [Hi] <;> iassumption
  isplitl [HH] <;> iassumption

theorem st_cameSum (l : Lane) (s : Fin 3) {Q : α → sProp 𝕄} (h : St m K c (upd (upd (upd σ (.far l 2) .gone) (.arr l s) .here) (.ctl l (loS s)) .done) snt 3 ⊢ W c (k ⟨⟩) Q)
    (hq : q = rSem l (loS s) := by rfl) (hN : dst.view.dmaCredit = N := by rfl) (hn : ∀ l', (loS s).val + 2 < snt l' + 2 := by decide +kernel)
    (hi1 : σ (.ctl l (loS s)) = .left := by decide +kernel) (hi2 : σ (.arr l s) = .gone := by decide +kernel) (hi3 : σ (.far l 2) = .gone := by decide +kernel) :
    St m K c σ snt 3 ⊢ W c (.op (.waitDma2 q src dst hsrc hdst) k) Q :=
  st_came m K c l (loS s) (.arr l s) (.far l 2) .here .gone
    (by
      rw [show R m c (.arr l s) .here = recvPay m l (loS s) c from rfl, show R m c (.far l 2) .gone = iprop(emp) from rfl]
      iintro H; isplitl [H]; · iexact H
      iempintro)
    h hq hN hn hi1 hi2 hi3 (by simp) (by simp) (by simp)

theorem st_cameFin (l : Lane) (a : Fin 3) {Q : α → sProp 𝕄} (h : St m K c (upd (upd (upd σ (.far l a) .here) (.row l (suc a)) .fin) (.ctl l (hiS a)) .done) snt 3 ⊢ W c (k ⟨⟩) Q)
    (hq : q = rSem l (hiS a) := by rfl) (hN : dst.view.dmaCredit = N := by rfl) (hn : ∀ l', (hiS a).val + 2 < snt l' + 2 := by decide +kernel)
    (hi1 : σ (.ctl l (hiS a)) = .left := by decide +kernel) (hi2 : σ (.row l (suc a)) = .gone := by decide +kernel) (hi3 : σ (.far l a) = .gone := by decide +kernel) :
    St m K c σ snt 3 ⊢ W c (.op (.waitDma2 q src dst hsrc hdst) k) Q :=
  st_came m K c l (hiS a) (.row l (suc a)) (.far l a) .fin .here
    (by match a with | 0 => exact Entails.refl _ | 1 => exact Entails.refl _ | 2 => exact Entails.refl _)
    h hq hN hn hi1 hi2 hi3 (by simp) (by simp) (by simp)
end Wait

end Ops

end Cert.KernelIdeal.Hand
-- ==== Proof.Body.lean ====
module

public import proofs.«01_k».proof.Proof.Hops

@[expose] public section

noncomputable section

namespace Cert.KernelIdeal.Hand

open Cert.KernelIdeal Cert.KernelIdeal.Gen
open Idealize.ShloMosaic
open Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD)

/-- Where everything stands when the kernel starts. -/
def σ₀ : I → Ph
  | .row _ _ => .raw | .arr _ _ => .gone | .far _ _ => .gone | .ctl _ _ => .raw
  | .slA _ => .free | .slB _ => .free | .abf _ => .raw | .bbf _ => .raw

/-- Where everything stands when the kernel ends. -/
def σ₁ : I → Ph
  | .row _ _ => .fin | .arr _ _ => .free | .far _ a => if a = 2 then .here else .gone | .ctl _ _ => .done
  | .slA 0 => .land 0 | .slA 1 => .land 1 | .slB 0 => .land 6 | .slB 1 => .land 7 | .abf _ => .own | .bbf _ => .own

set_option maxHeartbeats 0 in
set_option maxRecDepth 100000 in
/-- The whole kernel, step by step: each line names the operation and the piece of memory it acts on. -/
theorem body_steps : St m K c σ₀ (fun _ => 0) 0 ⊢ W c (cc0_body (F := F)
    (Memref.whole main_arg0) (Memref.isWhole_whole _) (Memref.whole main_arg1) (Memref.isWhole_whole _)
    (Memref.whole cc0_stg0_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 (Memref.whole cc0_scratch6) (Memref.isWhole_whole _)
    (Memref.whole cc0_scratch7) (Memref.isWhole_whole _)
    cc0_scratch8 cc0_scratch9 cc0_scratch10 cc0_scratch11 cc0_scratch12 cc0_scratch13 cc0_scratch14 cc0_scratch15) (fun _ => St m K c σ₁ (fun _ => 6) 3) := by
  rw [cc0_body_eq_skeleton]; unfold cc0_body_skel
  rw [k0_part92_eq_skeleton]; unfold k0_part92_skel
  rw [k0_part1_eq_skeleton]
  refine st_deviceId m K c ?_
  refine st_signalLeft m K c ?_
  refine st_signalRight m K c ?_
  rw [k0_part2_eq_skeleton]
  refine st_copyA m K c 0 6 ?_
  rw [k0_part3_eq_skeleton]
  refine st_copyA m K c 1 7 ?_
  refine st_copyB m K c 0 0 ?_
  refine st_copyB m K c 1 1 ?_
  refine st_waitA m K c 0 6 ?_
  refine st_loadA m K c 0 6 ?_
  refine st_peekA m K c 6 (fun _ => ?_)
  refine st_storeA m K c 6 ?_
  rw [k0_part4_eq_skeleton]
  refine st_waitA m K c 1 7 ?_
  refine st_loadA m K c 1 7 ?_
  refine st_peekA m K c 7 (fun _ => ?_)
  refine st_storeA m K c 7 ?_
  refine st_waitB m K c 0 0 ?_
  refine st_loadB m K c 0 0 ?_
  refine st_peekB m K c 0 (fun _ => ?_)
  refine st_storeB m K c 0 ?_
  refine st_waitB m K c 1 1 ?_
  refine st_loadB m K c 1 1 ?_
  rw [k0_part5_eq_skeleton]
  refine st_peekB m K c 1 (fun _ => ?_)
  refine st_storeB m K c 1 ?_
  refine st_copyA m K c 0 2 ?_
  rw [k0_part6_eq_skeleton]
  refine st_copyA m K c 1 3 ?_
  refine st_copyB m K c 0 4 ?_
  refine st_copyB m K c 1 5 ?_
  refine st_readA m K c 0 1 ?_
  rw [k0_part7_eq_skeleton]
  refine st_readB m K c 0 ?_
  refine st_peekRow m K c 0 1 (fun _ => ?_)
  refine st_storeDot m K c 0 1 ?_
  refine st_readA m K c 1 1 ?_
  refine st_readB m K c 1 ?_
  refine st_peekRow m K c 1 1 (fun _ => ?_)
  refine st_storeDot m K c 1 1 ?_
  refine st_waitBar m K c ?_
  rw [k0_part8_eq_skeleton]
  refine st_send0 m K c 0 ?_
  rw [k0_part9_eq_skeleton]
  refine st_send0 m K c 1 ?_
  refine st_waitA m K c 0 2 ?_
  refine st_loadA m K c 0 2 ?_
  refine st_peekA m K c 2 (fun _ => ?_)
  refine st_storeA m K c 2 ?_
  refine st_waitA m K c 1 3 ?_
  refine st_loadA m K c 1 3 ?_
  rw [k0_part10_eq_skeleton]
  refine st_peekA m K c 3 (fun _ => ?_)
  refine st_storeA m K c 3 ?_
  refine st_waitB m K c 0 4 ?_
  refine st_loadB m K c 0 4 ?_
  refine st_peekB m K c 4 (fun _ => ?_)
  refine st_storeB m K c 4 ?_
  refine st_waitB m K c 1 5 ?_
  refine st_loadB m K c 1 5 ?_
  refine st_peekB m K c 5 (fun _ => ?_)
  refine st_storeB m K c 5 ?_
  rw [k0_part11_eq_skeleton]
  refine st_copyB m K c 0 2 ?_
  refine st_copyB m K c 1 3 ?_
  refine st_readA m K c 4 1 ?_
  refine st_readB m K c 4 ?_
  refine st_peekRow m K c 4 1 (fun _ => ?_)
  refine st_storeDot m K c 4 1 ?_
  rw [k0_part12_eq_skeleton]
  refine st_readA m K c 5 1 ?_
  refine st_readB m K c 5 ?_
  refine st_peekRow m K c 5 1 (fun _ => ?_)
  refine st_storeDot m K c 5 1 ?_
  rw [k0_part13_eq_skeleton]
  refine st_send0 m K c 4 ?_
  refine st_send0 m K c 5 ?_
  refine st_waitB m K c 0 2 ?_
  rw [k0_part14_eq_skeleton]
  refine st_loadB m K c 0 2 ?_
  refine st_peekB m K c 2 (fun _ => ?_)
  refine st_storeB m K c 2 ?_
  refine st_waitB m K c 1 3 ?_
  refine st_loadB m K c 1 3 ?_
  refine st_peekB m K c 3 (fun _ => ?_)
  refine st_storeB m K c 3 ?_
  refine st_copyB m K c 0 6 ?_
  refine st_copyB m K c 1 7 ?_
  rw [k0_part15_eq_skeleton]
  refine st_readA m K c 2 1 ?_
  refine st_readB m K c 2 ?_
  refine st_peekRow m K c 2 1 (fun _ => ?_)
  refine st_storeDot m K c 2 1 ?_
  refine st_readA m K c 3 1 ?_
  refine st_readB m K c 3 ?_
  rw [k0_part16_eq_skeleton]
  refine st_peekRow m K c 3 1 (fun _ => ?_)
  refine st_storeDot m K c 3 1 ?_
  refine st_send0 m K c 2 ?_
  rw [k0_part17_eq_skeleton]
  refine st_send0 m K c 3 ?_
  refine st_waitB m K c 0 6 ?_
  refine st_loadB m K c 0 6 ?_
  refine st_peekB m K c 6 (fun _ => ?_)
  refine st_storeB m K c 6 ?_
  rw [k0_part18_eq_skeleton]
  refine st_waitB m K c 1 7 ?_
  refine st_loadB m K c 1 7 ?_
  refine st_peekB m K c 7 (fun _ => ?_)
  refine st_storeB m K c 7 ?_
  refine st_readA m K c 6 1 ?_
  refine st_readB m K c 6 ?_
  refine st_peekRow m K c 6 1 (fun _ => ?_)
  refine st_storeDot m K c 6 1 ?_
  rw [k0_part19_eq_skeleton]
  refine st_readA m K c 7 1 ?_
  refine st_readB m K c 7 ?_
  refine st_peekRow m K c 7 1 (fun _ => ?_)
  refine st_storeDot m K c 7 1 ?_
  rw [k0_part20_eq_skeleton]
  refine st_send0 m K c 6 ?_
  refine st_send0 m K c 7 ?_
  rw [k0_part21_eq_skeleton]
  refine st_copyA m K c 0 4 ?_
  refine st_copyA m K c 1 5 ?_
  refine st_waitA m K c 0 4 ?_
  refine st_loadA m K c 0 4 ?_
  refine st_peekA m K c 4 (fun _ => ?_)
  rw [k0_part22_eq_skeleton]
  refine st_storeA m K c 4 ?_
  refine st_waitA m K c 1 5 ?_
  refine st_loadA m K c 1 5 ?_
  refine st_peekA m K c 5 (fun _ => ?_)
  refine st_storeA m K c 5 ?_
  refine st_copyA m K c 0 0 ?_
  refine st_copyA m K c 1 1 ?_
  rw [k0_part23_eq_skeleton]
  refine st_waitA m K c 0 0 ?_
  refine st_loadA m K c 0 0 ?_
  refine st_peekA m K c 0 (fun _ => ?_)
  refine st_storeA m K c 0 ?_
  refine st_waitA m K c 1 1 ?_
  refine st_loadA m K c 1 1 ?_
  refine st_peekA m K c 1 (fun _ => ?_)
  refine st_storeA m K c 1 ?_
  rw [k0_part24_eq_skeleton]
  refine st_readA m K c 0 2 ?_
  refine st_readB m K c 0 ?_
  refine st_peekRow m K c 0 2 (fun _ => ?_)
  refine st_storeDot m K c 0 2 ?_
  refine st_readA m K c 4 2 ?_
  refine st_readB m K c 4 ?_
  rw [k0_part25_eq_skeleton]
  refine st_peekRow m K c 4 2 (fun _ => ?_)
  refine st_storeDot m K c 4 2 ?_
  refine st_leftSum m K c 0 0 ?_
  refine st_cameSum m K c 0 0 ?_
  refine st_readRow m K c 0 2 ?_
  rw [k0_part26_eq_skeleton]
  refine st_readSlot m K c 0 0 ?_
  refine st_readRow m K c 0 2 ?_
  refine st_storeAdd m K c 0 0 2 ?_
  refine st_send1 m K c 0 ?_
  rw [k0_part27_eq_skeleton]
  refine st_leftSum m K c 4 0 ?_
  refine st_cameSum m K c 4 0 ?_
  refine st_readRow m K c 4 2 ?_
  refine st_readSlot m K c 4 0 ?_
  refine st_readRow m K c 4 2 ?_
  refine st_storeAdd m K c 4 0 2 ?_
  rw [k0_part28_eq_skeleton]
  refine st_send1 m K c 4 ?_
  refine st_readA m K c 1 2 ?_
  refine st_readB m K c 1 ?_
  refine st_peekRow m K c 1 2 (fun _ => ?_)
  refine st_storeDot m K c 1 2 ?_
  refine st_readA m K c 5 2 ?_
  rw [k0_part29_eq_skeleton]
  refine st_readB m K c 5 ?_
  refine st_peekRow m K c 5 2 (fun _ => ?_)
  refine st_storeDot m K c 5 2 ?_
  refine st_leftSum m K c 1 0 ?_
  refine st_cameSum m K c 1 0 ?_
  rw [k0_part30_eq_skeleton]
  refine st_readRow m K c 1 2 ?_
  refine st_readSlot m K c 1 0 ?_
  refine st_readRow m K c 1 2 ?_
  refine st_storeAdd m K c 1 0 2 ?_
  refine st_send1 m K c 1 ?_
  rw [k0_part31_eq_skeleton]
  refine st_leftSum m K c 5 0 ?_
  refine st_cameSum m K c 5 0 ?_
  refine st_readRow m K c 5 2 ?_
  refine st_readSlot m K c 5 0 ?_
  refine st_readRow m K c 5 2 ?_
  refine st_storeAdd m K c 5 0 2 ?_
  rw [k0_part32_eq_skeleton]
  refine st_send1 m K c 5 ?_
  refine st_readA m K c 2 2 ?_
  refine st_readB m K c 2 ?_
  refine st_peekRow m K c 2 2 (fun _ => ?_)
  refine st_storeDot m K c 2 2 ?_
  rw [k0_part33_eq_skeleton]
  refine st_readA m K c 6 2 ?_
  refine st_readB m K c 6 ?_
  refine st_peekRow m K c 6 2 (fun _ => ?_)
  refine st_storeDot m K c 6 2 ?_
  refine st_leftSum m K c 2 0 ?_
  refine st_cameSum m K c 2 0 ?_
  rw [k0_part34_eq_skeleton]
  refine st_readRow m K c 2 2 ?_
  refine st_readSlot m K c 2 0 ?_
  refine st_readRow m K c 2 2 ?_
  refine st_storeAdd m K c 2 0 2 ?_
  refine st_send1 m K c 2 ?_
  rw [k0_part35_eq_skeleton]
  refine st_leftSum m K c 6 0 ?_
  refine st_cameSum m K c 6 0 ?_
  refine st_readRow m K c 6 2 ?_
  refine st_readSlot m K c 6 0 ?_
  rw [k0_part36_eq_skeleton]
  refine st_readRow m K c 6 2 ?_
  refine st_storeAdd m K c 6 0 2 ?_
  refine st_send1 m K c 6 ?_
  refine st_readA m K c 3 2 ?_
  refine st_readB m K c 3 ?_
  refine st_peekRow m K c 3 2 (fun _ => ?_)
  rw [k0_part37_eq_skeleton]
  refine st_storeDot m K c 3 2 ?_
  refine st_readA m K c 7 2 ?_
  refine st_readB m K c 7 ?_
  refine st_peekRow m K c 7 2 (fun _ => ?_)
  refine st_storeDot m K c 7 2 ?_
  refine st_leftSum m K c 3 0 ?_
  refine st_cameSum m K c 3 0 ?_
  rw [k0_part38_eq_skeleton]
  refine st_readRow m K c 3 2 ?_
  refine st_readSlot m K c 3 0 ?_
  refine st_readRow m K c 3 2 ?_
  refine st_storeAdd m K c 3 0 2 ?_
  rw [k0_part39_eq_skeleton]
  refine st_send1 m K c 3 ?_
  refine st_leftSum m K c 7 0 ?_
  refine st_cameSum m K c 7 0 ?_
  refine st_readRow m K c 7 2 ?_
  rw [k0_part40_eq_skeleton]
  refine st_readSlot m K c 7 0 ?_
  refine st_readRow m K c 7 2 ?_
  refine st_storeAdd m K c 7 0 2 ?_
  refine st_send1 m K c 7 ?_
  rw [k0_part41_eq_skeleton]
  refine st_readA m K c 0 3 ?_
  refine st_readB m K c 0 ?_
  refine st_peekRow m K c 0 3 (fun _ => ?_)
  refine st_storeDot m K c 0 3 ?_
  refine st_readA m K c 4 3 ?_
  refine st_readB m K c 4 ?_
  rw [k0_part42_eq_skeleton]
  refine st_peekRow m K c 4 3 (fun _ => ?_)
  refine st_storeDot m K c 4 3 ?_
  refine st_leftSum m K c 0 1 ?_
  refine st_cameSum m K c 0 1 ?_
  refine st_readRow m K c 0 3 ?_
  rw [k0_part43_eq_skeleton]
  refine st_readSlot m K c 0 1 ?_
  refine st_readRow m K c 0 3 ?_
  refine st_storeAdd m K c 0 1 3 ?_
  refine st_send2 m K c 0 ?_
  refine st_leftSum m K c 4 1 ?_
  rw [k0_part44_eq_skeleton]
  refine st_cameSum m K c 4 1 ?_
  refine st_readRow m K c 4 3 ?_
  refine st_readSlot m K c 4 1 ?_
  refine st_readRow m K c 4 3 ?_
  refine st_storeAdd m K c 4 1 3 ?_
  rw [k0_part45_eq_skeleton]
  refine st_send2 m K c 4 ?_
  refine st_readA m K c 1 3 ?_
  refine st_readB m K c 1 ?_
  refine st_peekRow m K c 1 3 (fun _ => ?_)
  refine st_storeDot m K c 1 3 ?_
  refine st_readA m K c 5 3 ?_
  refine st_readB m K c 5 ?_
  rw [k0_part46_eq_skeleton]
  refine st_peekRow m K c 5 3 (fun _ => ?_)
  refine st_storeDot m K c 5 3 ?_
  refine st_leftSum m K c 1 1 ?_
  refine st_cameSum m K c 1 1 ?_
  refine st_readRow m K c 1 3 ?_
  rw [k0_part47_eq_skeleton]
  refine st_readSlot m K c 1 1 ?_
  refine st_readRow m K c 1 3 ?_
  refine st_storeAdd m K c 1 1 3 ?_
  refine st_send2 m K c 1 ?_
  rw [k0_part48_eq_skeleton]
  refine st_leftSum m K c 5 1 ?_
  refine st_cameSum m K c 5 1 ?_
  refine st_readRow m K c 5 3 ?_
  refine st_readSlot m K c 5 1 ?_
  refine st_readRow m K c 5 3 ?_
  refine st_storeAdd m K c 5 1 3 ?_
  rw [k0_part49_eq_skeleton]
  refine st_send2 m K c 5 ?_
  refine st_readA m K c 2 3 ?_
  refine st_readB m K c 2 ?_
  refine st_peekRow m K c 2 3 (fun _ => ?_)
  refine st_storeDot m K c 2 3 ?_
  refine st_readA m K c 6 3 ?_
  rw [k0_part50_eq_skeleton]
  refine st_readB m K c 6 ?_
  refine st_peekRow m K c 6 3 (fun _ => ?_)
  refine st_storeDot m K c 6 3 ?_
  refine st_leftSum m K c 2 1 ?_
  refine st_cameSum m K c 2 1 ?_
  rw [k0_part51_eq_skeleton]
  refine st_readRow m K c 2 3 ?_
  refine st_readSlot m K c 2 1 ?_
  refine st_readRow m K c 2 3 ?_
  refine st_storeAdd m K c 2 1 3 ?_
  refine st_send2 m K c 2 ?_
  rw [k0_part52_eq_skeleton]
  refine st_leftSum m K c 6 1 ?_
  refine st_cameSum m K c 6 1 ?_
  refine st_readRow m K c 6 3 ?_
  refine st_readSlot m K c 6 1 ?_
  refine st_readRow m K c 6 3 ?_
  refine st_storeAdd m K c 6 1 3 ?_
  rw [k0_part53_eq_skeleton]
  refine st_send2 m K c 6 ?_
  refine st_readA m K c 3 3 ?_
  refine st_readB m K c 3 ?_
  refine st_peekRow m K c 3 3 (fun _ => ?_)
  refine st_storeDot m K c 3 3 ?_
  rw [k0_part54_eq_skeleton]
  refine st_readA m K c 7 3 ?_
  refine st_readB m K c 7 ?_
  refine st_peekRow m K c 7 3 (fun _ => ?_)
  refine st_storeDot m K c 7 3 ?_
  refine st_leftSum m K c 3 1 ?_
  refine st_cameSum m K c 3 1 ?_
  rw [k0_part55_eq_skeleton]
  refine st_readRow m K c 3 3 ?_
  refine st_readSlot m K c 3 1 ?_
  refine st_readRow m K c 3 3 ?_
  refine st_storeAdd m K c 3 1 3 ?_
  refine st_send2 m K c 3 ?_
  rw [k0_part56_eq_skeleton]
  refine st_leftSum m K c 7 1 ?_
  refine st_cameSum m K c 7 1 ?_
  refine st_readRow m K c 7 3 ?_
  refine st_readSlot m K c 7 1 ?_
  rw [k0_part57_eq_skeleton]
  refine st_readRow m K c 7 3 ?_
  refine st_storeAdd m K c 7 1 3 ?_
  refine st_send2 m K c 7 ?_
  rw [k0_part58_eq_skeleton]
  refine st_readA m K c 0 0 ?_
  refine st_readB m K c 0 ?_
  refine st_peekRow m K c 0 0 (fun _ => ?_)
  refine st_storeDot m K c 0 0 ?_
  refine st_readA m K c 4 0 ?_
  refine st_readB m K c 4 ?_
  refine st_peekRow m K c 4 0 (fun _ => ?_)
  refine st_storeDot m K c 4 0 ?_
  rw [k0_part59_eq_skeleton]
  refine st_leftSum m K c 0 2 ?_
  refine st_cameSum m K c 0 2 ?_
  refine st_readRow m K c 0 0 ?_
  refine st_readSlot m K c 0 2 ?_
  rw [k0_part60_eq_skeleton]
  refine st_readRow m K c 0 0 ?_
  refine st_storeAdd m K c 0 2 0 ?_
  refine st_send3 m K c 0 ?_
  refine st_leftSum m K c 4 2 ?_
  rw [k0_part93_eq_skeleton]; unfold k0_part93_skel
  rw [k0_part61_eq_skeleton]
  refine st_cameSum m K c 4 2 ?_
  refine st_readRow m K c 4 0 ?_
  refine st_readSlot m K c 4 2 ?_
  refine st_readRow m K c 4 0 ?_
  refine st_storeAdd m K c 4 2 0 ?_
  rw [k0_part62_eq_skeleton]
  refine st_send3 m K c 4 ?_
  refine st_readA m K c 1 0 ?_
  refine st_readB m K c 1 ?_
  refine st_peekRow m K c 1 0 (fun _ => ?_)
  refine st_storeDot m K c 1 0 ?_
  refine st_readA m K c 5 0 ?_
  refine st_readB m K c 5 ?_
  refine st_peekRow m K c 5 0 (fun _ => ?_)
  refine st_storeDot m K c 5 0 ?_
  rw [k0_part63_eq_skeleton]
  refine st_leftSum m K c 1 2 ?_
  refine st_cameSum m K c 1 2 ?_
  refine st_readRow m K c 1 0 ?_
  refine st_readSlot m K c 1 2 ?_
  refine st_readRow m K c 1 0 ?_
  refine st_storeAdd m K c 1 2 0 ?_
  rw [k0_part64_eq_skeleton]
  refine st_send3 m K c 1 ?_
  refine st_leftSum m K c 5 2 ?_
  rw [k0_part65_eq_skeleton]
  refine st_cameSum m K c 5 2 ?_
  refine st_readRow m K c 5 0 ?_
  refine st_readSlot m K c 5 2 ?_
  refine st_readRow m K c 5 0 ?_
  refine st_storeAdd m K c 5 2 0 ?_
  rw [k0_part66_eq_skeleton]
  refine st_send3 m K c 5 ?_
  refine st_readA m K c 2 0 ?_
  refine st_readB m K c 2 ?_
  refine st_peekRow m K c 2 0 (fun _ => ?_)
  refine st_storeDot m K c 2 0 ?_
  refine st_readA m K c 6 0 ?_
  refine st_readB m K c 6 ?_
  refine st_peekRow m K c 6 0 (fun _ => ?_)
  refine st_storeDot m K c 6 0 ?_
  refine st_leftSum m K c 2 2 ?_
  rw [k0_part67_eq_skeleton]
  refine st_cameSum m K c 2 2 ?_
  refine st_readRow m K c 2 0 ?_
  refine st_readSlot m K c 2 2 ?_
  refine st_readRow m K c 2 0 ?_
  refine st_storeAdd m K c 2 2 0 ?_
  rw [k0_part68_eq_skeleton]
  refine st_send3 m K c 2 ?_
  refine st_leftSum m K c 6 2 ?_
  refine st_cameSum m K c 6 2 ?_
  rw [k0_part69_eq_skeleton]
  refine st_readRow m K c 6 0 ?_
  refine st_readSlot m K c 6 2 ?_
  refine st_readRow m K c 6 0 ?_
  refine st_storeAdd m K c 6 2 0 ?_
  rw [k0_part70_eq_skeleton]
  refine st_send3 m K c 6 ?_
  refine st_readA m K c 3 0 ?_
  refine st_readB m K c 3 ?_
  refine st_peekRow m K c 3 0 (fun _ => ?_)
  refine st_storeDot m K c 3 0 ?_
  refine st_readA m K c 7 0 ?_
  refine st_readB m K c 7 ?_
  refine st_peekRow m K c 7 0 (fun _ => ?_)
  refine st_storeDot m K c 7 0 ?_
  refine st_leftSum m K c 3 2 ?_
  rw [k0_part71_eq_skeleton]
  refine st_cameSum m K c 3 2 ?_
  refine st_readRow m K c 3 0 ?_
  refine st_readSlot m K c 3 2 ?_
  refine st_readRow m K c 3 0 ?_
  refine st_storeAdd m K c 3 2 0 ?_
  rw [k0_part72_eq_skeleton]
  refine st_send3 m K c 3 ?_
  refine st_leftSum m K c 7 2 ?_
  refine st_cameSum m K c 7 2 ?_
  rw [k0_part73_eq_skeleton]
  refine st_readRow m K c 7 0 ?_
  refine st_readSlot m K c 7 2 ?_
  refine st_readRow m K c 7 0 ?_
  refine st_storeAdd m K c 7 2 0 ?_
  refine st_send3 m K c 7 ?_
  rw [k0_part74_eq_skeleton]
  refine st_leftFin m K c 0 0 ?_
  refine st_cameFin m K c 0 0 ?_
  refine st_send4 m K c 0 ?_
  rw [k0_part75_eq_skeleton]
  refine st_leftFin m K c 4 0 ?_
  refine st_cameFin m K c 4 0 ?_
  refine st_send4 m K c 4 ?_
  rw [k0_part76_eq_skeleton]
  refine st_leftFin m K c 1 0 ?_
  refine st_cameFin m K c 1 0 ?_
  refine st_send4 m K c 1 ?_
  rw [k0_part77_eq_skeleton]
  refine st_leftFin m K c 5 0 ?_
  refine st_cameFin m K c 5 0 ?_
  refine st_send4 m K c 5 ?_
  rw [k0_part78_eq_skeleton]
  refine st_leftFin m K c 2 0 ?_
  refine st_cameFin m K c 2 0 ?_
  refine st_send4 m K c 2 ?_
  refine st_leftFin m K c 6 0 ?_
  rw [k0_part79_eq_skeleton]
  refine st_cameFin m K c 6 0 ?_
  refine st_send4 m K c 6 ?_
  refine st_leftFin m K c 3 0 ?_
  rw [k0_part80_eq_skeleton]
  refine st_cameFin m K c 3 0 ?_
  refine st_send4 m K c 3 ?_
  refine st_leftFin m K c 7 0 ?_
  rw [k0_part81_eq_skeleton]
  refine st_cameFin m K c 7 0 ?_
  refine st_send4 m K c 7 ?_
  refine st_leftFin m K c 0 1 ?_
  rw [k0_part82_eq_skeleton]
  refine st_cameFin m K c 0 1 ?_
  refine st_send5 m K c 0 ?_
  refine st_leftFin m K c 4 1 ?_
  rw [k0_part83_eq_skeleton]
  refine st_cameFin m K c 4 1 ?_
  refine st_send5 m K c 4 ?_
  refine st_leftFin m K c 1 1 ?_
  rw [k0_part84_eq_skeleton]
  refine st_cameFin m K c 1 1 ?_
  refine st_send5 m K c 1 ?_
  refine st_leftFin m K c 5 1 ?_
  rw [k0_part85_eq_skeleton]
  refine st_cameFin m K c 5 1 ?_
  refine st_send5 m K c 5 ?_
  refine st_leftFin m K c 2 1 ?_
  refine st_cameFin m K c 2 1 ?_
  rw [k0_part86_eq_skeleton]
  refine st_send5 m K c 2 ?_
  refine st_leftFin m K c 6 1 ?_
  refine st_cameFin m K c 6 1 ?_
  rw [k0_part87_eq_skeleton]
  refine st_send5 m K c 6 ?_
  refine st_leftFin m K c 3 1 ?_
  refine st_cameFin m K c 3 1 ?_
  rw [k0_part88_eq_skeleton]
  refine st_send5 m K c 3 ?_
  refine st_leftFin m K c 7 1 ?_
  refine st_cameFin m K c 7 1 ?_
  rw [k0_part89_eq_skeleton]
  refine st_send5 m K c 7 ?_
  refine st_leftFin m K c 0 2 ?_
  refine st_cameFin m K c 0 2 ?_
  rw [k0_part90_eq_skeleton]
  refine st_leftFin m K c 4 2 ?_
  refine st_cameFin m K c 4 2 ?_
  refine st_leftFin m K c 1 2 ?_
  refine st_cameFin m K c 1 2 ?_
  refine st_leftFin m K c 5 2 ?_
  refine st_cameFin m K c 5 2 ?_
  rw [k0_part91_eq_skeleton]
  refine st_leftFin m K c 2 2 ?_
  refine st_cameFin m K c 2 2 ?_
  refine st_leftFin m K c 6 2 ?_
  refine st_cameFin m K c 6 2 ?_
  refine st_leftFin m K c 3 2 ?_
  refine st_cameFin m K c 3 2 ?_
  refine st_leftFin m K c 7 2 ?_
  refine st_cameFin m K c 7 2 ?_
  generalize hσ : upd _ (I.ctl 7 (hiS 2)) Ph.done = σ
  generalize hn : updN _ _ _ = n
  rw [show σ = σ₁ from ?_, show n = fun _ => 6 from ?_]
  · show _ ⊢ W c (Prog.ret PUnit.unit) _
    unfold W; rw [wp_ret]; iintro H; imodintro; iexact H
  · subst hn; funext l; revert l; decide +kernel
  · subst hσ; funext i
    rcases i with ⟨l, k⟩ | ⟨l, s⟩ | ⟨l, a⟩ | ⟨l, t⟩ | u | u | x | l
    · revert l k; decide +kernel
    · revert l s; decide +kernel
    · revert l a; decide +kernel
    · revert l t; decide +kernel
    · revert u; decide +kernel
    · revert u; decide +kernel
    · revert x; decide +kernel
    · revert l; decide +kernel

end Cert.KernelIdeal.Hand
-- ==== Proof.Cut.lean ====
/-
# Cutting the kernel's buffers into pieces and joining them again

The launch hands over whole buffers; the kernel's state holds them piece by piece. A family of pieces that a key
function tells apart cuts a buffer, and joins to it again.
-/
module

public import proofs.«01_k».proof.Proof.Blocks

@[expose] public section

noncomputable section

namespace Cert.KernelIdeal.Hand

open Cert.KernelIdeal Cert.KernelIdeal.Gen
open Idealize.ShloMosaic
open Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD)

/-! ## Any buffer -/

section Any
variable (ℓ : Loc nD τ sig) {B : Type} [DecidableEq B] (S : Finset B) (P : B → Finset (Idx ℓ)) (key : Idx ℓ → B)
  (h : ∀ b ∈ S, ∀ i, i ∈ P b ↔ key i = b) (hk : ∀ i, key i ∈ S)

omit [FloatOps F] in
include h in
theorem pieces_apart : ∀ b ∈ S, ∀ b' ∈ S, b ≠ b' → Disjoint (P b) (P b') := fun b hb b' hb' hne =>
  Finset.disjoint_left.mpr fun i hi hi' => hne (((h b hb i).mp hi).symm.trans ((h b' hb' i).mp hi'))
omit [FloatOps F] in
include h hk in
theorem pieces_cover : S.biUnion P = Finset.univ :=
  Finset.eq_univ_iff_forall.mpr fun i => Finset.mem_biUnion.mpr ⟨key i, hk i, (h _ (hk i) i).mpr rfl⟩

omit [FloatOps F] in
include h hk in
theorem pieces_cut : iprop(∃ f, (ℓ ↦{fullShare} f : sProp 𝕄)) ⊢ bigSep S fun b => iprop(∃ f, (ℓ ↦[P b]{fullShare} f : sProp 𝕄)) := by
  iintro ⟨%f, H⟩
  iapply (show (ℓ ↦{fullShare} f : sProp 𝕄) ⊢ bigSep S fun b => iprop(∃ f, (ℓ ↦[P b]{fullShare} f : sProp 𝕄)) from by
    rw [← pieces_cover ℓ S P key h hk, pointsTo_biUnion S P (pieces_apart ℓ S P key h)]
    exact bigSep_mono fun b _ => show (ℓ ↦[P b]{fullShare} f : sProp 𝕄) ⊢ iprop(∃ f, (ℓ ↦[P b]{fullShare} f : sProp 𝕄)) from by
      iintro H; iexists f; iexact H)
  iexact H

omit [FloatOps F] in
include h hk in
theorem pieces_join_at (g : B → Buf (Elt F) ℓ → Prop) [Nonempty (Buf (Elt F) ℓ)] :
    (bigSep S fun b => iprop(∃ f, ⌜g b f⌝ ∗ (ℓ ↦[P b]{fullShare} f : sProp 𝕄)))
      ⊢ iprop(∃ f, ⌜∀ b ∈ S, ∃ f', g b f' ∧ ∀ i ∈ P b, f i = f' i⌝ ∗ (ℓ ↦{fullShare} f : sProp 𝕄)) := by
  refine (BI.bigSep_exists_pi S (fun b (f : Buf (Elt F) ℓ) => iprop(⌜g b f⌝ ∗ (ℓ ↦[P b]{fullShare} f : sProp 𝕄)))).trans ?_
  iintro ⟨%fs, H⟩
  ihave H := (bigSep_pure_sep S (fun b => g b (fs b)) fun b => (ℓ ↦[P b]{fullShare} fs b : sProp 𝕄)) $$ H
  icases H with ⟨%hg, H⟩
  ihave H := (pointsTo_biUnion_join S P fs (Classical.arbitrary _) (pieces_apart ℓ S P key h)) $$ H
  icases H with ⟨%f, %hf, H⟩
  iexists f
  isplitr
  · ipureintro; exact fun b hb => ⟨fs b, hg b hb, hf b hb⟩
  · iapply (Entails.of_eq (show (ℓ ↦[S.biUnion P]{fullShare} f : sProp 𝕄) = (ℓ ↦{fullShare} f) from by rw [pieces_cover ℓ S P key h hk])); iexact H

omit [FloatOps F] in
include h hk in
theorem pieces_join [Nonempty (Buf (Elt F) ℓ)] :
    (bigSep S fun b => iprop(∃ f, (ℓ ↦[P b]{fullShare} f : sProp 𝕄))) ⊢ iprop(∃ f, (ℓ ↦{fullShare} f : sProp 𝕄)) :=
  (bigSep_mono fun b _ => show iprop(∃ f, (ℓ ↦[P b]{fullShare} f : sProp 𝕄)) ⊢ iprop(∃ f, ⌜True⌝ ∗ (ℓ ↦[P b]{fullShare} f : sProp 𝕄)) from by
    iintro ⟨%f, H⟩
    iexists f
    isplitr
    · ipureintro; trivial
    · iexact H).trans
    ((pieces_join_at ℓ S P key h hk (fun _ _ => True)).trans (by iintro ⟨%f, -, H⟩; iexists f; iexact H))
end Any

/-- Owning a piece at some reading is owning its part of the buffer. -/
theorem any_owns {sp : Space} {s : Shape} {e : EltTy} (M : Memref sig .tc sp s e) (q : PosShare TreeShare) :
    iprop(∃ v, owns (c : Thread nD τ) M q v) ⊢ (iprop(∃ f, (M.view.loc (c : Thread nD τ) ↦[M.view.set]{q} f)) : sProp 𝕄) := by
  unfold owns; iintro ⟨%v, %f, -, H⟩; iexists f; iexact H
theorem owns_any {sp : Space} {s : Shape} {e : EltTy} (M : Memref sig .tc sp s e) (q : PosShare TreeShare) :
    (iprop(∃ f, (M.view.loc (c : Thread nD τ) ↦[M.view.set]{q} f)) : sProp 𝕄) ⊢ iprop(∃ v, owns (c : Thread nD τ) M q v) := by
  unfold owns; iintro ⟨%f, H⟩; iexists _; iexists f
  isplitr; · (ipureintro; rfl)
  iexact H

/-! ## The result -/

/-- How far upstream of `c` the block named after `j` begins its way. -/
def kb (l : Lane) (c j : Dev nD) : Fin 4 := if l.val < 4 then ⟨(c.val + 4 - j.val) % 4, Nat.mod_lt _ (by decide)⟩ else ⟨(j.val + 4 - c.val) % 4, Nat.mod_lt _ (by decide)⟩
theorem kb_iff (l : Lane) (c j : Dev nD) (k : Fin 4) : (bk l c k.val = j) ↔ (kb l c j = k) := by revert l c j k; decide +kernel

abbrev laneAt (i : S3072x3072.Idx) : Lane := ⟨(i 1).val / 384, by have : (i 1).val < 3072 := (i 1).isLt; omega⟩
abbrev rowAt (i : S3072x3072.Idx) : Dev nD := ⟨(i 0).val / 768, by have : (i 0).val < 3072 := (i 0).isLt; show (i 0).val / 768 < 4; omega⟩
abbrev inBlock (i : S3072x3072.Idx) : S768x384.Idx
  | ⟨0, _⟩ => (⟨(i 0).val % 768, Nat.mod_lt _ (by decide)⟩ : Fin 768)
  | ⟨1, _⟩ => (⟨(i 1).val % 384, Nat.mod_lt _ (by decide)⟩ : Fin 384)

theorem mem_out (l : Lane) (j : Dev nD) (i : S3072x3072.Idx) : (i ∈ (outM l j).view.set) ↔ (laneAt i = l ∧ rowAt i = j) := by
  rw [View.set_slice_whole, Rect.mem_set_unit]
  constructor
  · intro h
    have h0 := h 0; have h1 := h 1
    replace h0 : 768 * j.val ≤ (i 0).val ∧ (i 0).val < 768 * j.val + 768 := h0
    replace h1 : 384 * l.val ≤ (i 1).val ∧ (i 1).val < 384 * l.val + 384 := h1
    exact ⟨Fin.ext (by show (i 1).val / 384 = l.val; omega), Fin.ext (by show (i 0).val / 768 = j.val; omega)⟩
  · rintro ⟨rfl, rfl⟩ a
    match a with
    | ⟨0, _⟩ => show 768 * ((i 0).val / 768) ≤ (i 0).val ∧ (i 0).val < 768 * ((i 0).val / 768) + 768; omega
    | ⟨1, _⟩ => show 384 * ((i 1).val / 384) ≤ (i 1).val ∧ (i 1).val < 384 * ((i 1).val / 384) + 384; omega

/-- What block `j` of lane `l` reads of a result buffer. -/
def outRd (l : Lane) (j : Dev nD) (f : S3072x3072.Idx → Elt F .bf16) : S768x384.Idx → Elt F .bf16 := (outM l j).view.read (Elt F) f

/-- The whole result: every block finished. -/
def outT : S3072x3072.Idx → Elt F .bf16 := fun i => fVal m (laneAt i) (rowAt i) (inBlock i)

/-- The part of the result block `p` fills. -/
def outP (p : Lane × Fin 4) : Finset S3072x3072.Idx := (outM p.1 (bk p.1 c p.2.val)).view.set

theorem out_key (p : Lane × Fin 4) (i : S3072x3072.Idx) :
    (i ∈ outP c p) ↔ ((laneAt i, kb (laneAt i) c (rowAt i)) = p) := by
  unfold outP
  rw [mem_out]
  obtain ⟨l, k⟩ := p
  constructor
  · rintro ⟨rfl, h⟩; rw [(kb_iff _ _ _ _).mp h.symm]
  · intro h
    obtain ⟨rfl, rfl⟩ := Prod.mk.inj h
    exact ⟨rfl, ((kb_iff _ _ _ _).mpr rfl).symm⟩

theorem out_cut : iprop(∃ f : Buf (Elt F) ((c : Thread nD τ).loc cc0_stg0_0), ((c : Thread nD τ).loc cc0_stg0_0 ↦{fullShare} f))
    ⊢ bigSep Finset.univ fun p : Lane × Fin 4 => R m c (.row p.1 p.2) .raw :=
  (pieces_cut ((c : Thread nD τ).loc cc0_stg0_0) Finset.univ (outP c) _ (fun p _ i => out_key c p i) (fun _ => Finset.mem_univ _)).trans
    (bigSep_mono fun p _ => owns_any c (outM p.1 (bk p.1 c p.2.val)) fullShare)

theorem out_join : (bigSep Finset.univ fun p : Lane × Fin 4 => R m c (.row p.1 p.2) .fin)
    ⊢ ((c : Thread nD τ).loc cc0_stg0_0 ↦{fullShare} outT m : sProp 𝕄) := by
  refine (bigSep_mono fun p _ => show R m c (.row p.1 p.2) .fin
      ⊢ iprop(∃ f : Buf (Elt F) ((c : Thread nD τ).loc cc0_stg0_0), ⌜outRd p.1 (bk p.1 c p.2.val) f = fVal m p.1 (bk p.1 c p.2.val)⌝
        ∗ ((c : Thread nD τ).loc cc0_stg0_0 ↦[outP c p]{fullShare} f)) from Entails.refl _).trans ?_
  have : Nonempty (Buf (Elt F) ((c : Thread nD τ).loc cc0_stg0_0)) := ⟨outT m⟩
  refine (pieces_join_at ((c : Thread nD τ).loc cc0_stg0_0) Finset.univ (outP c) _ (fun p _ i => out_key c p i) (fun _ => Finset.mem_univ _)
    (fun p f => outRd p.1 (bk p.1 c p.2.val) f = fVal m p.1 (bk p.1 c p.2.val))).trans ?_
  iintro ⟨%f, %hf, H⟩
  have e : f = outT m := by
    funext (i : S3072x3072.Idx)
    obtain ⟨f', hr, hi⟩ := hf (laneAt i, kb (laneAt i) c (rowAt i)) (Finset.mem_univ _)
    have hb : bk (laneAt i) c (kb (laneAt i) c (rowAt i)).val = rowAt i := (kb_iff _ _ _ _).mpr rfl
    have hm : i ∈ outP c (laneAt i, kb (laneAt i) c (rowAt i)) := (out_key c _ i).mpr rfl
    rw [hi i hm]
    dsimp only at hr
    rw [hb] at hr
    have hx := congrFun hr (inBlock i)
    refine Eq.trans ?_ hx
    show f' i = f' ((outM (laneAt i) (rowAt i)).view.emb (inBlock i))
    congr 1
    funext a
    match a with
    | ⟨0, _⟩ => exact Fin.ext (by show (i 0).val = 768 * ((i 0).val / 768) + 1 * ((i 0).val % 768); omega)
    | ⟨1, _⟩ => exact Fin.ext (by show (i 1).val = 384 * ((i 1).val / 384) + 1 * ((i 1).val % 384); omega)
  subst e
  iexact H

/-! ## The rounded copies -/

/-- The part of the buffer each piece fills. -/
def abfP (x : Fin 8) : Finset S3072x1536.Idx := (abfM (aq c x)).view.set
def bbfP (l : Lane) : Finset S1536x3072.Idx := (bbfM l).view.set

theorem abf_key (x : Fin 8) (i : S3072x1536.Idx) :
    (i ∈ abfP c x) ↔ ((⟨((i 0).val / 384 + 8 - 2 * c.val) % 8, Nat.mod_lt _ (by decide)⟩ : Fin 8) = x) := by
  unfold abfP
  rw [View.set_slice_whole, Rect.mem_set_unit]
  have hi : (i 0).val < 3072 := (i 0).isLt
  have hc : c.val < 4 := c.isLt
  have hx : x.val < 8 := x.isLt
  have hq : (aq c x).val = (2 * c.val + x.val) % 8 := rfl
  constructor
  · intro h
    have h0 := h 0
    replace h0 : 384 * (aq c x).val ≤ (i 0).val ∧ (i 0).val < 384 * (aq c x).val + 384 := h0
    rw [hq] at h0
    exact Fin.ext (by show ((i 0).val / 384 + 8 - 2 * c.val) % 8 = x.val; omega)
  · intro h a
    have h' : ((i 0).val / 384 + 8 - 2 * c.val) % 8 = x.val := congrArg Fin.val h
    match a with
    | ⟨0, _⟩ => show 384 * (aq c x).val ≤ (i 0).val ∧ (i 0).val < 384 * (aq c x).val + 384; rw [hq]; omega
    | ⟨1, _⟩ => have : (i 1).val < 1536 := (i 1).isLt; show 0 ≤ (i 1).val ∧ (i 1).val < 0 + 1536; omega

theorem abf_cut : iprop(∃ f : Buf (Elt F) ((c : Thread nD τ).loc cc0_scratch0), ((c : Thread nD τ).loc cc0_scratch0 ↦{fullShare} f))
    ⊢ bigSep Finset.univ fun x : Fin 8 => R m c (.abf x) .raw :=
  pieces_cut ((c : Thread nD τ).loc cc0_scratch0) Finset.univ (abfP c) _ (fun x _ i => abf_key c x i) (fun _ => Finset.mem_univ _)
theorem abf_join : (bigSep Finset.univ fun x : Fin 8 => R m c (.abf x) .own)
    ⊢ iprop(∃ f : Buf (Elt F) ((c : Thread nD τ).loc cc0_scratch0), ((c : Thread nD τ).loc cc0_scratch0 ↦{fullShare} f)) := by
  have : Nonempty (Buf (Elt F) ((c : Thread nD τ).loc cc0_scratch0)) := ⟨abfT m c⟩
  exact (bigSep_mono fun x _ => by
      show iprop((c : Thread nD τ).loc cc0_scratch0 ↦[(abfM (aq c x)).view.set]{fullShare} abfT m c) ⊢ _
      iintro H; iexists (abfT m c); iexact H).trans
    (pieces_join ((c : Thread nD τ).loc cc0_scratch0) Finset.univ (abfP c) _ (fun x _ i => abf_key c x i) (fun _ => Finset.mem_univ _))

theorem bbf_key (l : Lane) (i : S1536x3072.Idx) :
    (i ∈ bbfP l) ↔ ((⟨(i 1).val / 384, by have : (i 1).val < 3072 := (i 1).isLt; omega⟩ : Lane) = l) := by
  unfold bbfP
  rw [View.set_slice_whole, Rect.mem_set_unit]
  constructor
  · intro h
    have h1 := h 1
    replace h1 : 384 * l.val ≤ (i 1).val ∧ (i 1).val < 384 * l.val + 384 := h1
    exact Fin.ext (by show (i 1).val / 384 = l.val; omega)
  · rintro rfl a
    match a with
    | ⟨0, _⟩ => have : (i 0).val < 1536 := (i 0).isLt; show 0 ≤ (i 0).val ∧ (i 0).val < 0 + 1536; omega
    | ⟨1, _⟩ => show 384 * ((i 1).val / 384) ≤ (i 1).val ∧ (i 1).val < 384 * ((i 1).val / 384) + 384; omega

theorem bbf_cut : iprop(∃ f : Buf (Elt F) ((c : Thread nD τ).loc cc0_scratch1), ((c : Thread nD τ).loc cc0_scratch1 ↦{fullShare} f))
    ⊢ bigSep Finset.univ fun l : Lane => R m c (.bbf l) .raw :=
  (pieces_cut ((c : Thread nD τ).loc cc0_scratch1) Finset.univ (bbfP) _ (fun l _ i => bbf_key l i) (fun _ => Finset.mem_univ _)).trans
    (bigSep_mono fun l _ => owns_any c (bbfM l) fullShare)
theorem bbf_join [Nonempty (Buf (Elt F) ((c : Thread nD τ).loc cc0_scratch1))] : (bigSep Finset.univ fun l : Lane => R m c (.bbf l) .own)
    ⊢ iprop(∃ f : Buf (Elt F) ((c : Thread nD τ).loc cc0_scratch1), ((c : Thread nD τ).loc cc0_scratch1 ↦{fullShare} f)) :=
  (bigSep_mono fun l _ => by
      show owns (c : Thread nD τ) (bbfM l) fullShare (bVal m c l) ⊢ iprop(∃ f, ((bbfM l).view.loc (c : Thread nD τ) ↦[(bbfM l).view.set]{fullShare} f))
      refine .trans ?_ (any_owns c (bbfM l) fullShare); iintro H; iexists _; iexact H).trans
    (pieces_join ((c : Thread nD τ).loc cc0_scratch1) Finset.univ (bbfP) _ (fun l _ i => bbf_key l i) (fun _ => Finset.mem_univ _))

/-! ## The staging slots -/

/-- The part of the buffer each slot fills. -/
def stAP (u : Fin 2) : Finset S2x384x1536.Idx := (stA u).view.set
def stBP (u : Fin 2) : Finset S2x1536x384.Idx := (stB u).view.set

theorem stA_key (u : Fin 2) (i : S2x384x1536.Idx) : (i ∈ stAP u) ↔ ((i 0 : Fin 2) = u) := by
  unfold stAP
  rw [View.set_reshape, View.set_slice_whole, Rect.mem_set_unit]
  constructor
  · intro h
    have h0 := h 0
    replace h0 : u.val ≤ (i 0).val ∧ (i 0).val < u.val + 1 := h0
    exact Fin.ext (by omega)
  · rintro rfl a
    match a with
    | ⟨0, _⟩ => show (i 0).val ≤ (i 0).val ∧ (i 0).val < (i 0).val + 1; omega
    | ⟨1, _⟩ => have : (i 1).val < 384 := (i 1).isLt; show 0 ≤ (i 1).val ∧ (i 1).val < 0 + 384; omega
    | ⟨2, _⟩ => have : (i 2).val < 1536 := (i 2).isLt; show 0 ≤ (i 2).val ∧ (i 2).val < 0 + 1536; omega
theorem stB_key (u : Fin 2) (i : S2x1536x384.Idx) : (i ∈ stBP u) ↔ ((i 0 : Fin 2) = u) := by
  unfold stBP
  rw [View.set_reshape, View.set_slice_whole, Rect.mem_set_unit]
  constructor
  · intro h
    have h0 := h 0
    replace h0 : u.val ≤ (i 0).val ∧ (i 0).val < u.val + 1 := h0
    exact Fin.ext (by omega)
  · rintro rfl a
    match a with
    | ⟨0, _⟩ => show (i 0).val ≤ (i 0).val ∧ (i 0).val < (i 0).val + 1; omega
    | ⟨1, _⟩ => have : (i 1).val < 1536 := (i 1).isLt; show 0 ≤ (i 1).val ∧ (i 1).val < 0 + 1536; omega
    | ⟨2, _⟩ => have : (i 2).val < 384 := (i 2).isLt; show 0 ≤ (i 2).val ∧ (i 2).val < 0 + 384; omega

/-- Staging slot `u` of either operand, whatever it holds. -/
abbrev anyA (u : Fin 2) : sProp 𝕄 := iprop(∃ v : S384x1536.Idx → Elt F .f32, owns (c : Thread nD τ) (stA u) fullShare v)
abbrev anyB (u : Fin 2) : sProp 𝕄 := iprop(∃ v : S1536x384.Idx → Elt F .f32, owns (c : Thread nD τ) (stB u) fullShare v)

theorem stA_cut : iprop(∃ f : Buf (Elt F) ((c : Thread nD τ).loc cc0_scratch2), ((c : Thread nD τ).loc cc0_scratch2 ↦{fullShare} f))
    ⊢ bigSep Finset.univ fun u : Fin 2 => anyA (F := F) c u :=
  (pieces_cut ((c : Thread nD τ).loc cc0_scratch2) Finset.univ (stAP) _ (fun u _ i => stA_key u i) (fun _ => Finset.mem_univ _)).trans
    (bigSep_mono fun u _ => owns_any c (stA u) fullShare)
theorem stB_cut : iprop(∃ f : Buf (Elt F) ((c : Thread nD τ).loc cc0_scratch3), ((c : Thread nD τ).loc cc0_scratch3 ↦{fullShare} f))
    ⊢ bigSep Finset.univ fun u : Fin 2 => anyB (F := F) c u :=
  (pieces_cut ((c : Thread nD τ).loc cc0_scratch3) Finset.univ (stBP) _ (fun u _ i => stB_key u i) (fun _ => Finset.mem_univ _)).trans
    (bigSep_mono fun u _ => owns_any c (stB u) fullShare)
theorem stA_join [Nonempty (Buf (Elt F) ((c : Thread nD τ).loc cc0_scratch2))] : (bigSep Finset.univ fun u : Fin 2 => anyA (F := F) c u)
    ⊢ iprop(∃ f : Buf (Elt F) ((c : Thread nD τ).loc cc0_scratch2), ((c : Thread nD τ).loc cc0_scratch2 ↦{fullShare} f)) :=
  (bigSep_mono fun u _ => any_owns c (stA u) fullShare).trans
    (pieces_join ((c : Thread nD τ).loc cc0_scratch2) Finset.univ (stAP) _ (fun u _ i => stA_key u i) (fun _ => Finset.mem_univ _))
theorem stB_join [Nonempty (Buf (Elt F) ((c : Thread nD τ).loc cc0_scratch3))] : (bigSep Finset.univ fun u : Fin 2 => anyB (F := F) c u)
    ⊢ iprop(∃ f : Buf (Elt F) ((c : Thread nD τ).loc cc0_scratch3), ((c : Thread nD τ).loc cc0_scratch3 ↦{fullShare} f)) :=
  (bigSep_mono fun u _ => any_owns c (stB u) fullShare).trans
    (pieces_join ((c : Thread nD τ).loc cc0_scratch3) Finset.univ (stBP) _ (fun u _ i => stB_key u i) (fun _ => Finset.mem_univ _))

/-! ## The landing slots -/

/-- The part of the buffer each slot fills. -/
def loP (p : Lane × Fin 3) : Finset S12x768x384.Idx := (slotOf commR p.1 p.2).view.set
def hiP (p : Lane × Fin 3) : Finset S12x768x384.Idx := (slotOf commL p.1 p.2).view.set

theorem slot_iff (l : Lane) (s : Fin 3) (i : S12x768x384.Idx) (h0 : ℕ) (hl : h0 ≤ l.val ∧ l.val < h0 + 4) (h4 : h0 = 0 ∨ h0 = 4) :
    (i ∈ (slotRect l s).set) ↔ (((⟨h0 + (i 0).val % 4, by omega⟩ : Lane), (⟨(i 0).val / 4, by have : (i 0).val < 12 := (i 0).isLt; omega⟩ : Fin 3)) = (l, s)) := by
  rw [Rect.mem_set_unit]
  have hi : (i 0).val < 12 := (i 0).isLt
  constructor
  · intro h
    have h0' := h 0
    replace h0' : 4 * s.val + l.val % 4 ≤ (i 0).val ∧ (i 0).val < 4 * s.val + l.val % 4 + 1 := h0'
    exact Prod.ext (Fin.ext (by show h0 + (i 0).val % 4 = l.val; omega)) (Fin.ext (by show (i 0).val / 4 = s.val; omega))
  · intro h a
    have e1 : h0 + (i 0).val % 4 = l.val := congrArg (fun p : Lane × Fin 3 => p.1.val) h
    have e2 : (i 0).val / 4 = s.val := congrArg (fun p : Lane × Fin 3 => p.2.val) h
    match a with
    | ⟨0, _⟩ => show 4 * s.val + l.val % 4 ≤ (i 0).val ∧ (i 0).val < 4 * s.val + l.val % 4 + 1; omega
    | ⟨1, _⟩ => have : (i 1).val < 768 := (i 1).isLt; show 0 ≤ (i 1).val ∧ (i 1).val < 0 + 768; omega
    | ⟨2, _⟩ => have : (i 2).val < 384 := (i 2).isLt; show 0 ≤ (i 2).val ∧ (i 2).val < 0 + 384; omega

theorem lo_key (p : Lane × Fin 3) (hp : p ∈ loSlots) (i : S12x768x384.Idx) :
    (i ∈ loP p) ↔ (((⟨0 + (i 0).val % 4, by omega⟩ : Lane), (⟨(i 0).val / 4, by have : (i 0).val < 12 := (i 0).isLt; omega⟩ : Fin 3)) = p) := by
  have hl : p.1.val < 4 := (Finset.mem_filter.mp hp).2
  unfold loP
  rw [View.set_reshape, View.set_slice_whole]
  exact slot_iff p.1 p.2 i 0 (by omega) (.inl rfl)
theorem hi_key (p : Lane × Fin 3) (hp : p ∈ hiSlots) (i : S12x768x384.Idx) :
    (i ∈ hiP p) ↔ (((⟨4 + (i 0).val % 4, by omega⟩ : Lane), (⟨(i 0).val / 4, by have : (i 0).val < 12 := (i 0).isLt; omega⟩ : Fin 3)) = p) := by
  have hl : ¬ p.1.val < 4 := (Finset.mem_filter.mp hp).2
  unfold hiP
  rw [View.set_reshape, View.set_slice_whole]
  exact slot_iff p.1 p.2 i 4 (by have : p.1.val < 8 := p.1.isLt; omega) (.inr rfl)

theorem lo_cut : iprop(∃ f : Buf (Elt F) ((c : Thread nD τ).loc cc0_scratch6), ((c : Thread nD τ).loc cc0_scratch6 ↦{fullShare} f))
    ⊢ slots (F := F) loSlots c :=
  (pieces_cut ((c : Thread nD τ).loc cc0_scratch6) loSlots (loP) _ lo_key (fun i => Finset.mem_filter.mpr ⟨Finset.mem_univ _, by show 0 + (i 0).val % 4 < 4; omega⟩)).trans
    (bigSep_mono fun p hp => by
      unfold anyOwn slotM; rw [commM_lo _ (Finset.mem_filter.mp hp).2]; exact owns_any c (slotOf commR p.1 p.2) fullShare)
theorem hi_cut : iprop(∃ f : Buf (Elt F) ((c : Thread nD τ).loc cc0_scratch7), ((c : Thread nD τ).loc cc0_scratch7 ↦{fullShare} f))
    ⊢ slots (F := F) hiSlots c :=
  (pieces_cut ((c : Thread nD τ).loc cc0_scratch7) hiSlots (hiP) _ hi_key (fun i => Finset.mem_filter.mpr ⟨Finset.mem_univ _, by show ¬ 4 + (i 0).val % 4 < 4; omega⟩)).trans
    (bigSep_mono fun p hp => by
      unfold anyOwn slotM; rw [commM_hi _ (Finset.mem_filter.mp hp).2]; exact owns_any c (slotOf commL p.1 p.2) fullShare)
theorem lo_join [Nonempty (Buf (Elt F) ((c : Thread nD τ).loc cc0_scratch6))] : slots (F := F) loSlots c
    ⊢ iprop(∃ f : Buf (Elt F) ((c : Thread nD τ).loc cc0_scratch6), ((c : Thread nD τ).loc cc0_scratch6 ↦{fullShare} f)) :=
  (bigSep_mono fun p hp => by
      unfold anyOwn slotM; rw [commM_lo _ (Finset.mem_filter.mp hp).2]; exact any_owns c (slotOf commR p.1 p.2) fullShare).trans
    (pieces_join ((c : Thread nD τ).loc cc0_scratch6) loSlots (loP) _ lo_key (fun i => Finset.mem_filter.mpr ⟨Finset.mem_univ _, by show 0 + (i 0).val % 4 < 4; omega⟩))
theorem hi_join [Nonempty (Buf (Elt F) ((c : Thread nD τ).loc cc0_scratch7))] : slots (F := F) hiSlots c
    ⊢ iprop(∃ f : Buf (Elt F) ((c : Thread nD τ).loc cc0_scratch7), ((c : Thread nD τ).loc cc0_scratch7 ↦{fullShare} f)) :=
  (bigSep_mono fun p hp => by
      unfold anyOwn slotM; rw [commM_hi _ (Finset.mem_filter.mp hp).2]; exact any_owns c (slotOf commL p.1 p.2) fullShare).trans
    (pieces_join ((c : Thread nD τ).loc cc0_scratch7) hiSlots (hiP) _ hi_key (fun i => Finset.mem_filter.mpr ⟨Finset.mem_univ _, by show ¬ 4 + (i 0).val % 4 < 4; omega⟩))

/-! ## The operands, in two halves -/

theorem halves_eq {ℓ : Loc nD τ sig} (f : Buf (Elt F) ℓ) :
    (ℓ ↦{fullShare} f : sProp 𝕄) ⊣⊢ iprop((ℓ ↦{half 0} f) ∗ ℓ ↦{half 1} f) := pointsTo_share (PosShare.mem_left_op_right fullShare)

end Cert.KernelIdeal.Hand
-- ==== Proof.Ends.lean ====
/-
# Where the kernel starts and where it ends, in whole buffers

What the launch deals a device, whole buffers and semaphores, makes up the state the kernel starts in; the state it
ends in makes up whole buffers and semaphores again, the result finished.
-/
module

public import proofs.«01_k».proof.Proof.Body
public import proofs.«01_k».proof.Proof.Cut

@[expose] public section

noncomputable section

namespace Cert.KernelIdeal.Hand

open Cert.KernelIdeal Cert.KernelIdeal.Gen
open Idealize.ShloMosaic
open Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CIx → ℕ) (c : Dev nD)

/-! ## The pieces, kind by kind -/

/-- The lanes' transfers. -/
abbrev XIx : Type := Lane × Fin 6

theorem hold_eq (σ : I → Ph) : Hold m c σ ∅
    = iprop((((bigSep Finset.univ fun p : Lane × Fin 4 => R m c (.row p.1 p.2) (σ (.row p.1 p.2)))
          ∗ (bigSep Finset.univ fun p : Lane × Fin 3 => R m c (.arr p.1 p.2) (σ (.arr p.1 p.2))))
        ∗ ((bigSep Finset.univ fun p : Lane × Fin 3 => R m c (.far p.1 p.2) (σ (.far p.1 p.2)))
          ∗ (bigSep Finset.univ fun p : XIx => R m c (.ctl p.1 p.2) (σ (.ctl p.1 p.2)))))
      ∗ (((bigSep Finset.univ fun u : Fin 2 => R m c (.slA u) (σ (.slA u))) ∗ (bigSep Finset.univ fun u : Fin 2 => R m c (.slB u) (σ (.slB u))))
        ∗ ((bigSep Finset.univ fun x : Fin 8 => R m c (.abf x) (σ (.abf x))) ∗ (bigSep Finset.univ fun l : Lane => R m c (.bbf l) (σ (.bbf l)))))) := by
  unfold Hold
  rw [Finset.sdiff_empty, bigSep_univ_equiv iEquiv, bigSep_univ_sum, bigSep_univ_sum, bigSep_univ_sum, bigSep_univ_sum, bigSep_univ_sum, bigSep_univ_sum, bigSep_univ_sum]
  rfl

/-! ## What a device is dealt -/

/-- The staging semaphores at zero. -/
def locals (c : Dev nD) : sProp 𝕄 :=
  iprop((bigSep Finset.univ fun u : Fin 2 => semVal ((c : Thread nD τ), .dma (semA u)) 0) ∗ (bigSep Finset.univ fun u : Fin 2 => semVal ((c : Thread nD τ), .dma (semB u)) 0))
/-- Where the device stands at its own semaphores. -/
def poss (c : Dev nD) : sProp 𝕄 :=
  iprop(atPos ER (barCell c) 0 ∅ 0 ∗ (bigSep Finset.univ fun p : XIx => atPos ER (sCell p.1 p.2 c) 0 ∅ 0) ∗ (bigSep Finset.univ fun p : XIx => atPos ER (rCell p.1 p.2 c) 0 ∅ 0))
/-- The tokens of what the device itself does to others' semaphores and its own. -/
def payToks (c : Dev nD) : sProp 𝕄 :=
  iprop((dutyTok ER (barCell (prv c)) 0 true ∗ dutyTok ER (barCell (nxt c)) 0 false)
    ∗ (bigSep Finset.univ fun p : XIx => dutyTok ER (sCell p.1 p.2 c) 0 false) ∗ (bigSep Finset.univ fun p : XIx => dutyTok ER (rCell p.1 p.2 (dn p.1 c)) 0 false))
/-- What the others will do to its own. -/
def creds (c : Dev nD) : sProp 𝕄 :=
  iprop(cred (tallyAt (barCell c) () 2) ∗ (bigSep Finset.univ fun p : XIx => cred (tallyAt (rCell p.1 p.2 c) () N)))
/-- The operands. -/
def args (c : Dev nD) : sProp 𝕄 :=
  iprop(((c : Thread nD τ).loc main_arg0 ↦{fullShare} arg0 m c) ∗ ((c : Thread nD τ).loc main_arg1 ↦{fullShare} arg1 m c))
/-- The ring's semaphores, all at zero. -/
def zeros (c : Dev nD) : sProp 𝕄 :=
  iprop((bigSep Finset.univ fun p : XIx => semVal (sCell p.1 p.2 c) 0) ∗ (bigSep Finset.univ fun p : XIx => semVal (rCell p.1 p.2 c) 0))

theorem arg0_halves : ((c : Thread nD τ).loc main_arg0 ↦{fullShare} arg0 m c : sProp 𝕄)
    = bigSep Finset.univ fun u : Fin 2 => iprop((c : Thread nD τ).loc main_arg0 ↦[Finset.univ]{half u} arg0 m c) := by
  rw [bigSep_univ_two]; exact equiv_iff.mp ⟨(halves_eq (arg0 m c)).1, (halves_eq (arg0 m c)).2⟩
theorem arg1_halves : ((c : Thread nD τ).loc main_arg1 ↦{fullShare} arg1 m c : sProp 𝕄)
    = bigSep Finset.univ fun u : Fin 2 => iprop((c : Thread nD τ).loc main_arg1 ↦[Finset.univ]{half u} arg1 m c) := by
  rw [bigSep_univ_two]; exact equiv_iff.mp ⟨(halves_eq (arg1 m c)).1, (halves_eq (arg1 m c)).2⟩

/-- Both staging slots at rest: their contents, the operand, their semaphores. -/
theorem slA_eq : (bigSep Finset.univ fun u : Fin 2 => R m c (.slA u) .free)
    = iprop((bigSep Finset.univ fun u : Fin 2 => anyA (F := F) c u) ∗ ((c : Thread nD τ).loc main_arg0 ↦{fullShare} arg0 m c)
      ∗ (bigSep Finset.univ fun u : Fin 2 => semVal ((c : Thread nD τ), .dma (semA u)) 0)) := by
  rw [arg0_halves, ← bigSep_sep', ← bigSep_sep']; rfl
theorem slB_eq : (bigSep Finset.univ fun u : Fin 2 => R m c (.slB u) .free)
    = iprop((bigSep Finset.univ fun u : Fin 2 => anyB (F := F) c u) ∗ ((c : Thread nD τ).loc main_arg1 ↦{fullShare} arg1 m c)
      ∗ (bigSep Finset.univ fun u : Fin 2 => semVal ((c : Thread nD τ), .dma (semB u)) 0)) := by
  rw [arg1_halves, ← bigSep_sep', ← bigSep_sep']; rfl

theorem ctl_eq : (bigSep Finset.univ fun p : XIx => R m c (.ctl p.1 p.2) .raw)
    = iprop((bigSep Finset.univ fun p : XIx => dutyTok ER (sCell p.1 p.2 c) 0 false) ∗ (bigSep Finset.univ fun p : XIx => dutyTok ER (rCell p.1 p.2 (dn p.1 c)) 0 false)
      ∗ (bigSep Finset.univ fun p : XIx => atPos ER (sCell p.1 p.2 c) 0 ∅ 0) ∗ (bigSep Finset.univ fun p : XIx => atPos ER (rCell p.1 p.2 c) 0 ∅ 0)
      ∗ (bigSep Finset.univ fun p : XIx => cred (tallyAt (rCell p.1 p.2 c) () N))) := by
  rw [← bigSep_sep', ← bigSep_sep', ← bigSep_sep', ← bigSep_sep']; rfl
theorem done_eq : (bigSep Finset.univ fun p : XIx => R m c (.ctl p.1 p.2) .done) = zeros (F := F) c := by
  unfold zeros; rw [← bigSep_sep']; rfl

theorem gone_intro {B : Type} [Fintype B] (P : B → sProp 𝕄) (h : ∀ b, P b = iprop(emp)) : (iprop(emp) : sProp 𝕄) ⊢ bigSep Finset.univ P := by
  rw [bigSep_congr fun b _ => h b]; exact Entails.of_eq (bigSep_emp_const _).symm
theorem free_eq : (bigSep Finset.univ fun p : Lane × Fin 3 => R m c (.arr p.1 p.2) .free) = iprop(slots (F := F) loSlots c ∗ slots (F := F) hiSlots c) :=
  bigSep_filter_split Finset.univ fun p : Lane × Fin 3 => p.1.val < 4

/-! ## Start and end -/

abbrev anyBuf (b : Ref sig .tc) : sProp 𝕄 := iprop(∃ f : Buf (Elt F) ((c : Thread nD τ).loc b), ((c : Thread nD τ).loc b) ↦{fullShare} f)
/-- The kernel's buffers at rest. -/
def rests (c : Dev nD) : sProp 𝕄 :=
  iprop(anyBuf (F := F) c cc0_scratch0 ∗ anyBuf (F := F) c cc0_scratch1 ∗ anyBuf (F := F) c cc0_scratch2 ∗ anyBuf (F := F) c cc0_scratch3
    ∗ anyBuf (F := F) c cc0_scratch6 ∗ anyBuf (F := F) c cc0_scratch7)

/-- What a device is dealt is the state it starts in. -/
theorem enter : iprop(Recs m K ∗ (∃ W, owes (c : Thread nD τ) (owed c (fun _ => 0) 0) W) ∗ (locals (F := F) c ∗ poss (F := F) c ∗ payToks (F := F) c)
      ∗ creds (F := F) c ∗ args m c ∗ rests (F := F) c ∗ anyBuf (F := F) c cc0_stg0_0)
    ⊢ St m K c σ₀ (fun _ => 0) 0 := by
  unfold St locals poss payToks creds args rests
  rw [hold_eq m c σ₀, bars_0]
  iintro ⟨HR, Ho, ⟨⟨HlA, HlB⟩, ⟨HpB, HpS, HpR⟩, ⟨HtP, HtN⟩, HtS, HtR⟩, ⟨HcB, HcR⟩, ⟨Ha0, Ha1⟩, ⟨H0, H1, H2, H3, H6, H7⟩, Hout⟩
  isplitl [HR]; · iexact HR
  isplitl [Ho]; · iexact Ho
  isplitr [HtP HtN H6 H7 HpB HcB]
  · isplitl [Hout HtS HtR HpS HpR HcR]
    · isplitl [Hout]
      · isplitl [Hout]; · iapply (out_cut m c); iexact Hout
        iapply (gone_intro (fun p : Lane × Fin 3 => R m c (.arr p.1 p.2) (σ₀ (.arr p.1 p.2))) fun _ => rfl); iempintro
      · isplitr
        · iapply (gone_intro (fun p : Lane × Fin 3 => R m c (.far p.1 p.2) (σ₀ (.far p.1 p.2))) fun _ => rfl); iempintro
        iapply (Entails.of_eq (ctl_eq m c).symm)
        isplitl [HtS]; · iexact HtS
        isplitl [HtR]; · iexact HtR
        isplitl [HpS]; · iexact HpS
        isplitl [HpR] <;> iassumption
    · isplitl [H2 H3 Ha0 Ha1 HlA HlB]
      · isplitl [H2 Ha0 HlA]
        · iapply (Entails.of_eq (slA_eq m c).symm)
          isplitl [H2]; · iapply (stA_cut c); iexact H2
          isplitl [Ha0] <;> iassumption
        · iapply (Entails.of_eq (slB_eq m c).symm)
          isplitl [H3]; · iapply (stB_cut c); iexact H3
          isplitl [Ha1] <;> iassumption
      · isplitl [H0]; · iapply (abf_cut m c); iexact H0
        iapply (bbf_cut m c); iexact H1
  · isplitl [HtP H6]
    · isplitl [HtP]; · iexact HtP
      iapply (lo_cut c); iexact H6
    isplitl [HtN H7]
    · isplitl [HtN]; · iexact HtN
      iapply (hi_cut c); iexact H7
    isplitl [HpB] <;> iassumption

theorem rest_any {sp : Space} {s : Shape} {e : EltTy} (M : Memref sig .tc sp s e) (X) : (owns (c : Thread nD τ) M fullShare X : sProp 𝕄) ⊢ iprop(∃ v, owns (c : Thread nD τ) M fullShare v) := by
  iintro H; iexists X; iexact H

theorem slA_end (u : Fin 2) : R m c (.slA u) (σ₁ (.slA u)) ⊢ R m c (.slA u) .free := by
  match u with
  | 0 => exact Laws.sep_mono (rest_any c (stA 0) _) (Entails.refl _)
  | 1 => exact Laws.sep_mono (rest_any c (stA 1) _) (Entails.refl _)
theorem slB_end (u : Fin 2) : R m c (.slB u) (σ₁ (.slB u)) ⊢ R m c (.slB u) .free := by
  match u with
  | 0 => exact Laws.sep_mono (rest_any c (stB 0) _) (Entails.refl _)
  | 1 => exact Laws.sep_mono (rest_any c (stB 1) _) (Entails.refl _)

/-- The state it ends in: the result finished, the operands and the buffers whole, every semaphore at zero. -/
theorem leave : St m K c σ₁ (fun _ => 6) 3
    ⊢ iprop((∃ W, owes (c : Thread nD τ) (owed c (fun _ => 6) 3) W) ∗ (locals (F := F) c ∗ zeros (F := F) c ∗ semVal (barCell c) 0)
      ∗ args m c ∗ rests (F := F) c ∗ ((c : Thread nD τ).loc cc0_stg0_0 ↦{fullShare} outT m)) := by
  have n1 : Nonempty (Buf (Elt F) ((c : Thread nD τ).loc cc0_scratch1)) := ⟨m _⟩
  have n2 : Nonempty (Buf (Elt F) ((c : Thread nD τ).loc cc0_scratch2)) := ⟨m _⟩
  have n3 : Nonempty (Buf (Elt F) ((c : Thread nD τ).loc cc0_scratch3)) := ⟨m _⟩
  have n6 : Nonempty (Buf (Elt F) ((c : Thread nD τ).loc cc0_scratch6)) := ⟨m _⟩
  have n7 : Nonempty (Buf (Elt F) ((c : Thread nD τ).loc cc0_scratch7)) := ⟨m _⟩
  unfold St locals args rests
  rw [hold_eq m c σ₁, bars_3]
  iintro ⟨-, Ho, ⟨⟨⟨Hout, Harr⟩, -, Hctl⟩, ⟨HA, HB⟩, H0, H1⟩, HzB, -⟩
  ihave HA := (show (bigSep Finset.univ fun u : Fin 2 => R m c (.slA u) (σ₁ (.slA u))) ⊢ bigSep Finset.univ fun u : Fin 2 => R m c (.slA u) .free from bigSep_mono fun u _ => slA_end m c u) $$ HA
  ihave HB := (show (bigSep Finset.univ fun u : Fin 2 => R m c (.slB u) (σ₁ (.slB u))) ⊢ bigSep Finset.univ fun u : Fin 2 => R m c (.slB u) .free from bigSep_mono fun u _ => slB_end m c u) $$ HB
  ihave HA := (Entails.of_eq (slA_eq m c)) $$ HA
  ihave HB := (Entails.of_eq (slB_eq m c)) $$ HB
  ihave Harr := (show (bigSep Finset.univ fun p : Lane × Fin 3 => R m c (.arr p.1 p.2) (σ₁ (.arr p.1 p.2))) ⊢ _ from Entails.of_eq (free_eq m c)) $$ Harr
  icases HA with ⟨H2, Ha0, HlA⟩
  icases HB with ⟨H3, Ha1, HlB⟩
  icases Harr with ⟨H6, H7⟩
  isplitl [Ho]; · iexact Ho
  isplitl [HlA HlB Hctl HzB]
  · isplitl [HlA HlB]; · isplitl [HlA] <;> iassumption
    isplitl [Hctl]; · iapply (Entails.of_eq (done_eq m c)); iexact Hctl
    iexact HzB
  isplitl [Ha0 Ha1]; · isplitl [Ha0] <;> iassumption
  isplitr [Hout]
  · isplitl [H0]; · iapply (abf_join m c); iexact H0
    isplitl [H1]; · iapply (bbf_join m c); iexact H1
    isplitl [H2]; · iapply (stA_join c); iexact H2
    isplitl [H3]; · iapply (stB_join c); iexact H3
    isplitl [H6]; · iapply (lo_join c); iexact H6
    iapply (hi_join c); iexact H7
  · iapply (out_join m c); iexact Hout

end Cert.KernelIdeal.Hand
-- ==== Proof.Launch.lean ====
/-
# The launch

Every device's semaphores, positions and tokens are dealt at once, the tokens going round the ring to the devices that
use them; the kernel runs from there to its end, and every final memory is read off.
-/
module

public import proofs.«01_k».proof.Proof.Ends
public import proofs.«01_k».proof.Proof.Gen.KernelIdeal.Launch
public import Idealize.ShloMosaic.Lib.Pipeline.Launch
public import Idealize.ShloMosaic.Lib.Pipeline.Kit
public import Idealize.ShloMosaic.Lib.Quiescent
public import Idealize.ShloMosaic.Lib.Pipeline.CollectiveSegs
public import Idealize.ShloMosaic.Lib.Pipeline.ValueKit

@[expose] public section

noncomputable section

namespace Cert.KernelIdeal.Hand

open Cert.KernelIdeal Cert.KernelIdeal.Gen
open Idealize.ShloMosaic
open Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The semaphores -/

def csem : CIx → SemLoc sig
  | none => .reg barS | some (false, l, t) => .dma (sSem l t) | some (true, l, t) => .dma (rSem l t)
theorem rcell_eq (x : Dev nD × CIx) : rcell x = ((x.1 : Thread nD τ), csem x.2) := by
  obtain ⟨c, _ | ⟨_ | _, l, t⟩⟩ := x <;> rfl
/-- Reading a semaphore's part back off its place. -/
theorem csem_dma {b b' : Bool} {l l' : Lane} {t t' : Fin 6} (h : csem (some (b, l, t)) = csem (some (b', l', t'))) : (b, l, t) = (b', l', t') := by
  have key : ∀ b l t, ∃ q, csem (some (b, l, t)) = .dma q ∧ (recvOf q, laneOf q, stageOf q) = (b, l, t) := by
    intro b l t
    cases b
    · exact ⟨sSem l t, rfl, by rw [recvOf_s, laneOf_s, stageOf_s]⟩
    · exact ⟨rSem l t, rfl, by rw [recvOf_r, laneOf_r, stageOf_r]⟩
  obtain ⟨q, hq, e⟩ := key b l t
  obtain ⟨q', hq', e'⟩ := key b' l' t'
  rw [hq, hq'] at h
  cases h
  rw [← e, ← e']
theorem csem_injective : Function.Injective csem := by
  rintro (_ | ⟨b, l, t⟩) (_ | ⟨b', l', t'⟩) h
  · rfl
  · cases b' <;> cases h
  · cases b <;> cases h
  · exact congrArg some (csem_dma h)
theorem rcell_injective : Function.Injective rcell := by
  rintro ⟨c, k⟩ ⟨c', k'⟩ h
  rw [rcell_eq, rcell_eq] at h
  have h1 : c = c' := congrArg (fun g : GSem nD τ sig => g.1.1) h
  have h2 : k = k' := csem_injective (congrArg Prod.snd h)
  rw [h1, h2]
def ringCells : Finset (GSem nD τ sig) := Finset.univ.map ⟨rcell, rcell_injective⟩

/-- The duty tokens: two at a device's barrier, one at each of its other semaphores. -/
abbrev TIx : Type := Bool ⊕ (Bool × Lane × Fin 6)
def tokOf (x : Dev nD × TIx) : GSem nD τ sig × ℕ × Bool := match x.2 with
  | .inl d => (barCell x.1, 0, d) | .inr k => (rcell (x.1, some k), 0, false)
theorem tokOf_injective : Function.Injective tokOf := by
  rintro ⟨c, d | k⟩ ⟨c', d' | k'⟩ h
  · have h1 : c = c' := congrArg (fun x : GSem nD τ sig × ℕ × Bool => x.1.1.1) h
    have h2 : d = d' := congrArg (fun x : GSem nD τ sig × ℕ × Bool => x.2.2) h
    rw [h1, h2]
  · exact absurd (rcell_injective (show rcell (c, none) = rcell (c', some k') from congrArg Prod.fst h)) (fun h' => by cases h')
  · exact absurd (rcell_injective (show rcell (c, some k) = rcell (c', none) from congrArg Prod.fst h)) (fun h' => by cases h')
  · have := rcell_injective (show rcell (c, some k) = rcell (c', some k') from congrArg Prod.fst h)
    cases this; rfl
def ringToks : Finset (GSem nD τ sig × ℕ × Bool) := Finset.univ.map ⟨tokOf, tokOf_injective⟩

/-- The semaphores of the kernel's own: the staging slots', then the lanes'. -/
abbrev OIx : Type := (Fin 2 ⊕ Fin 2) ⊕ (Bool × Lane × Fin 6)
def osem : OIx → SemLoc sig
  | .inl (.inl u) => .dma (semA u) | .inl (.inr u) => .dma (semB u) | .inr k => csem (some k)
theorem ownSemFacts : Pipeline.OwnSemFacts cfg0.spec osem := by decide +kernel

/-- A conjunction over a pair of sides, or over all the ring's semaphores of a device, part by part. -/
theorem bigSep_sides (Φ : Bool × Lane × Fin 6 → sProp 𝕄) : bigSep Finset.univ Φ
    = iprop((bigSep Finset.univ fun p : XIx => Φ (false, p.1, p.2)) ∗ (bigSep Finset.univ fun p : XIx => Φ (true, p.1, p.2))) := by
  rw [bigSep_univ_prod]; exact bigSep_univ_eq_bigSepL [false, true] (by decide) (by decide) _
theorem bigSep_cix (Φ : CIx → sProp 𝕄) : bigSep Finset.univ Φ
    = iprop(Φ none ∗ (bigSep Finset.univ fun p : XIx => Φ (some (false, p.1, p.2))) ∗ (bigSep Finset.univ fun p : XIx => Φ (some (true, p.1, p.2)))) := by
  have h : Finset.univ.erase (none : CIx) = Finset.univ.map ⟨some, Option.some_injective _⟩ := by
    ext x; cases x <;> simp
  rw [bigSep_univ_at _ none, ← bigSep_sides fun k => Φ (some k), h, bigSep_map]
  rfl

/-! ## What the launch deals -/

def u₀ : UU := (initOf (Pipeline.cells cfgs cellOf_inj) (Pipeline.launchToks cfgs cellOf_inj), (initOf ringCells ringToks, 1))

/-- The tokens of a device's own semaphores. -/
def toks (c : Dev nD) : sProp 𝕄 :=
  iprop((dutyTok ER (barCell c) 0 false ∗ dutyTok ER (barCell c) 0 true)
    ∗ (bigSep Finset.univ fun p : XIx => dutyTok ER (sCell p.1 p.2 c) 0 false) ∗ (bigSep Finset.univ fun p : XIx => dutyTok ER (rCell p.1 p.2 c) 0 false))
def G (c : Dev nD) : sProp 𝕄 :=
  iprop((bigSep Finset.univ fun k : CIx => roundState ER (Rd m) (rcell (c, k)) 0)
    ∗ (bigSep Finset.univ fun k : CIx => iprop(atPos ER (rcell (c, k)) 0 ∅ 0 ∗ reached ER (rcell (c, k)) 0)) ∗ toks (F := F) c)
/-- What every device may look up, whichever it is. -/
def recs0 (K : Dev nD × CIx → ℕ) : sProp 𝕄 :=
  iprop((bigSep Finset.univ fun x : Dev nD × CIx => cellInv ER (Rd m) (K x) (rcell x))
    ∗ (bigSep Finset.univ fun x : Dev nD × CIx => reached ER (rcell x) 0))
instance recs0_persistent (K : Dev nD × CIx → ℕ) : BI.Persistent (recs0 (F := F) m K) := by unfold recs0; infer_instance
/-- What a device alone holds. -/
def mine (c : Dev nD) : sProp 𝕄 := iprop(locals (F := F) c ∗ poss (F := F) c ∗ payToks (F := F) c)
def G' (c : Dev nD) : sProp 𝕄 := iprop(∃ K, recs0 m K ∗ mine (F := F) c)

theorem toks_eq (c : Dev nD) : (bigSep Finset.univ fun x : TIx => (dutyTok ER (tokOf (c, x)).1 (tokOf (c, x)).2.1 (tokOf (c, x)).2.2 : sProp 𝕄)) = toks (F := F) c := by
  unfold toks
  rw [bigSep_univ_sum, bigSep_sides, bigSep_univ_eq_bigSepL [false, true] (by decide) (by decide)]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CIx => Φ (rcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => toks_eq c
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem ownSems0_eq (c : Dev nD) : (Pipeline.ownSems0 (Ix := Unit) (Name := ℕ) (U := UU) (Lvl := ℕ) (Val := Elt F) (τ := τ) osem c : sProp 𝕄)
    = iprop(locals (F := F) c ∗ zeros (F := F) c) := by
  unfold Pipeline.ownSems0 locals zeros
  rw [bigSep_univ_sum, bigSep_univ_sum, bigSep_sides]
  rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CIx => iprop(∃ κ : ℕ, cellInv ER (Rd m) κ (rcell (c, k))))
          ∗ (bigSep Finset.univ fun k : CIx => iprop(atPos ER (rcell (c, k)) 0 ∅ 0 ∗ reached ER (rcell (c, k)) 0)) ∗ toks (F := F) c ∗ locals (F := F) c) := by
  rw [ownSems0_eq, unscopedSems0_eq]
  unfold G zeros
  iintro ⟨⟨Hl, HS, HR⟩, HB, Hst, Hat, Htok⟩
  imod (show iprop((bigSep Finset.univ fun k : CIx => semVal (rcell (c, k)) 0) ∗ bigSep Finset.univ fun k : CIx => roundState ER (Rd m) (rcell (c, k)) 0)
      ⊢ (|={Set.univ}=> bigSep Finset.univ fun k : CIx => iprop(∃ κ : ℕ, cellInv ER (Rd m) κ (rcell (c, k))) : sProp 𝕄) from by
        rw [← bigSep_sep']
        exact (bigSep_mono fun k _ => (Rounds.body_intro ER (Rd m) (rcell (c, k))).trans inv_alloc).trans (bigSep_fupd _ _)) $$ [HS HR HB Hst] with Hinv
  · isplitr [Hst]
    · iapply (Entails.of_eq (bigSep_cix fun k : CIx => (semVal (rcell (c, k)) 0 : sProp 𝕄)).symm)
      isplitl [HB]; · iexact HB
      isplitl [HS]; · iexact HS
      iexact HR
    · iexact Hst
  imodintro
  isplitl [Hinv]; · iexact Hinv
  isplitl [Hat]; · iexact Hat
  isplitl [Htok] <;> iassumption

/-! ## The tokens go round the ring -/

def ring : Dev nD ≃ Dev nD := ⟨nxt, prv, prv_nxt, nxt_prv⟩
def ringOn (l : Lane) : Dev nD ≃ Dev nD := ⟨dn l, up l, up_dn l, dn_up l⟩

theorem recv_around : (bigSep Finset.univ fun c : Dev nD => bigSep Finset.univ fun p : XIx => (dutyTok ER (rCell p.1 p.2 c) 0 false : sProp 𝕄))
    = bigSep Finset.univ fun c : Dev nD => bigSep Finset.univ fun p : XIx => (dutyTok ER (rCell p.1 p.2 (dn p.1 c)) 0 false : sProp 𝕄) := by
  rw [bigSep_univ_comm, bigSep_univ_comm (fun (c : Dev nD) (p : XIx) => (dutyTok ER (rCell p.1 p.2 (dn p.1 c)) 0 false : sProp 𝕄))]
  exact bigSep_congr fun p _ => bigSep_univ_equiv (ringOn p.1) fun c : Dev nD => (dutyTok ER (rCell p.1 p.2 c) 0 false : sProp 𝕄)

theorem toks_around : (bigSep Finset.univ fun c : Dev nD => toks (F := F) c) ⊢ bigSep Finset.univ fun c : Dev nD => payToks (F := F) c := by
  unfold toks payToks
  rw [bigSep_sep', bigSep_sep', bigSep_sep', bigSep_sep', bigSep_sep', bigSep_sep', recv_around,
    bigSep_univ_equiv ring (fun c : Dev nD => (dutyTok ER (barCell c) 0 false : sProp 𝕄)),
    bigSep_univ_equiv ring.symm (fun c : Dev nD => (dutyTok ER (barCell c) 0 true : sProp 𝕄))]
  iintro ⟨⟨H1, H2⟩, H3⟩
  isplitr [H3]
  · isplitl [H2]; · iexact H2
    iexact H1
  · iexact H3

theorem bigSep_with_persistent {B : Type} [DecidableEq B] {S : Finset B} {P : sProp 𝕄} [BI.Persistent P] {Φ Ψ : B → sProp 𝕄}
    (h : ∀ i ∈ S, iprop(P ∗ Φ i) ⊢ Ψ i) : iprop(P ∗ bigSep S Φ) ⊢ bigSep S Ψ :=
  (sep_mono_left (BI.bigSep_of_persistent S P)).trans (by rw [← bigSep_sep']; exact bigSep_mono h)

theorem poss_eq (c : Dev nD) : (bigSep Finset.univ fun k : CIx => (atPos ER (rcell (c, k)) 0 ∅ 0 : sProp 𝕄)) = poss (F := F) c := bigSep_cix _

theorem regroup :
    (bigSep Finset.univ fun c : Dev nD => iprop((bigSep Finset.univ fun k : CIx => iprop(∃ κ : ℕ, cellInv ER (Rd m) κ (rcell (c, k))))
          ∗ (bigSep Finset.univ fun k : CIx => iprop(atPos ER (rcell (c, k)) 0 ∅ 0 ∗ reached ER (rcell (c, k)) 0)) ∗ toks (F := F) c ∗ locals (F := F) c) : sProp 𝕄)
      ⊢ bigSep Finset.univ (G' m) := by
  rw [bigSep_sep', bigSep_sep', bigSep_sep', ← bigSep_univ_prod (fun x : Dev nD × CIx => iprop(∃ κ : ℕ, cellInv ER (Rd m) κ (rcell x))),
    bigSep_congr (s := Finset.univ) (fun (c : Dev nD) _ => bigSep_sep' Finset.univ (fun k : CIx => (atPos ER (rcell (c, k)) 0 ∅ 0 : sProp 𝕄)) (fun k => reached ER (rcell (c, k)) 0)),
    bigSep_sep', ← bigSep_univ_prod (fun x : Dev nD × CIx => (reached ER (rcell x) 0 : sProp 𝕄)), bigSep_congr (s := Finset.univ) (fun (c : Dev nD) _ => poss_eq (F := F) c)]
  iintro ⟨HI, ⟨Hat, #HR⟩, Htok, Hl⟩
  ihave HK := (BI.bigSep_exists_pi Finset.univ (fun (x : Dev nD × CIx) (κ : ℕ) => (cellInv ER (Rd m) κ (rcell x) : sProp 𝕄))) $$ HI
  icases HK with ⟨%K, #HI⟩
  ihave Htk := (toks_around (F := F)) $$ Htok
  iapply (bigSep_with_persistent (P := recs0 m K) (Φ := fun c => mine (F := F) c) fun c _ => show iprop(recs0 m K ∗ mine (F := F) c) ⊢ G' m c from by
    unfold G'; iintro H; iexists K; iexact H)
  isplitr
  · unfold recs0; isplitl; · iexact HI
    iexact HR
  · unfold mine
    rw [bigSep_sep', bigSep_sep']
    isplitl [Hl]; · iexact Hl
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the devices owe one another at the start -/

/-- What a device owes when the kernel starts. -/
abbrev O₀ (c : Dev nD) : CellTallies nD τ sig Unit := owed c (fun _ => 0) 0

theorem bar_eq_iff {a b : Dev nD} : (barCell a = barCell b) ↔ (a = b) :=
  ⟨fun h => congrArg (fun g : GSem nD τ sig => g.1.1) h, fun h => h ▸ rfl⟩
theorem r_eq_iff {l l' : Lane} {t t' : Fin 6} {a b : Dev nD} : (rCell l t a = rCell l' t' b) ↔ (l = l' ∧ t = t' ∧ a = b) := by
  constructor
  · intro h
    have := rcell_injective (show rcell (a, some (true, l, t)) = rcell (b, some (true, l', t')) from h)
    cases this; exact ⟨rfl, rfl, rfl⟩
  · rintro ⟨rfl, rfl, rfl⟩; rfl
theorem bar_ne_r (a b : Dev nD) (l : Lane) (t : Fin 6) : barCell a ≠ rCell l t b := fun h =>
  absurd (congrArg Prod.snd h : (SemLoc.reg barS : SemLoc sig) = .dma (rSem l t)) (fun h' => by cases h')

theorem owed_bar (d c : Dev nD) : O₀ d (barCell c) () = (if d = prv c then 1 else 0) + (if d = nxt c then 1 else 0) := by
  have hr : ringO d (fun _ => 0) (barCell c) () = 0 := by
    by_contra h
    obtain ⟨l, t, -, e⟩ := ringO_pos (Nat.pos_of_ne_zero h)
    exact bar_ne_r _ _ _ _ e
  show (ringO d (fun _ => 0) + (tallyAt (barCell (nxt d)) () 1 + tallyAt (barCell (prv d)) () 1)) (barCell c) () = _
  rw [Pi.add_apply, Finsupp.add_apply, Pi.add_apply, Finsupp.add_apply, hr, Nat.zero_add, tallyAt_apply, tallyAt_apply]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

theorem owed_r (l : Lane) (t : Fin 6) (d c : Dev nD) : O₀ d (rCell l t c) () = if d = up l c then N else 0 := by
  have hb : barO d 0 (rCell l t c) () = 0 := by
    by_contra h
    obtain ⟨-, e | e⟩ := barO_pos (Nat.pos_of_ne_zero h) <;> exact bar_ne_r _ _ _ _ e.symm
  have hone (l' : Lane) (t' : Fin 6) : (if (0 : ℕ) ≤ t'.val then tallyAt (rCell l' t' (dn l' d)) () N else (0 : CellTallies nD τ sig Unit)) (rCell l t c) ()
      = if l' = l then (if t' = t then (if d = up l c then N else 0) else 0) else 0 := by
    rw [if_pos (Nat.zero_le _), tallyAt_apply]
    by_cases h1 : l' = l
    · subst h1
      by_cases h2 : t' = t
      · subst h2
        by_cases h3 : d = up l' c
        · subst h3; rw [dn_up, if_pos ⟨rfl, rfl⟩, if_pos rfl, if_pos rfl, if_pos rfl]
        · rw [if_neg (fun ⟨h, _⟩ => h3 (by rw [(r_eq_iff.mp h).2.2, up_dn])), if_pos rfl, if_pos rfl, if_neg h3]
      · rw [if_neg (fun ⟨h, _⟩ => h2 (r_eq_iff.mp h).2.1.symm), if_pos rfl, if_neg h2]
    · rw [if_neg (fun ⟨h, _⟩ => h1 (r_eq_iff.mp h).1.symm), if_neg h1]
  show (ringO d (fun _ => 0) + barO d 0) (rCell l t c) () = _
  rw [Pi.add_apply, Finsupp.add_apply, hb, Nat.add_zero]
  unfold ringO laneO
  rw [Finset.sum_apply, Finsupp.finset_sum_apply]
  rw [Finset.sum_congr rfl fun l' _ => (by
    rw [Finset.sum_apply, Finsupp.finset_sum_apply, Finset.sum_congr rfl fun t' _ => hone l' t'] :
      (∑ t' : Fin 6, if (0 : ℕ) ≤ t'.val then tallyAt (rCell l' t' (dn l' d)) () N else (0 : CellTallies nD τ sig Unit)) (rCell l t c) ()
        = ∑ t' : Fin 6, if l' = l then (if t' = t then (if d = up l c then N else 0) else 0) else 0)]
  rw [Finset.sum_eq_single l, Finset.sum_eq_single t, if_pos rfl, if_pos rfl]
  · exact fun t' _ h => by rw [if_pos rfl, if_neg h]
  · exact fun h => absurd (Finset.mem_univ _) h
  · exact fun l' _ h => by rw [Finset.sum_congr rfl fun t' _ => if_neg h]; exact Finset.sum_const_zero
  · exact fun h => absurd (Finset.mem_univ _) h

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_r (l : Lane) (t : Fin 6) (c : Dev nD) :
    tallyOn (rCell l t c) (launchCredit (Pipeline.owing O₀) 0 (rCell l t c)) = (tallyAt (rCell l t c) () N : CellTallies nD τ sig Unit) := by
  unfold tallyAt; refine congrArg _ (Finsupp.ext fun u => ?_); cases u
  rw [Pipeline.launchCredit_owing, Finsupp.single_eq_same, Finset.sum_congr rfl fun d _ => owed_r l t d c, Finset.sum_ite_eq' Finset.univ (up l c) fun _ => N,
    if_pos (Finset.mem_univ _)]

def rsem : XIx ↪ SemLoc sig := ⟨fun p => .dma (rSem p.1 p.2), fun p q h => by
  have := csem_dma (b := true) (b' := true) (l := p.1) (t := p.2) (l' := q.1) (t' := q.2) h
  exact Prod.ext (congrArg (fun x : Bool × Lane × Fin 6 => x.2.1) this) (congrArg (fun x : Bool × Lane × Fin 6 => x.2.2) this)⟩

theorem creds_intro (c : Dev nD) : (Pipeline.launchCred O₀ c : sProp 𝕄) ⊢ creds (F := F) c := by
  unfold Pipeline.launchCred creds
  rw [bigSep_univ_at _ (SemLoc.reg barS), launch_bar]
  refine Laws.sep_mono (Entails.refl _) ?_
  have hs : Finset.univ.map rsem ⊆ Finset.univ.erase (SemLoc.reg barS) := fun x hx => by
    obtain ⟨p, -, rfl⟩ := Finset.mem_map.mp hx
    exact Finset.mem_erase.mpr ⟨fun h => (by cases h), Finset.mem_univ _⟩
  refine (bigSep_subset hs).trans ?_
  · rw [bigSep_map]
    exact Entails.of_eq (bigSep_congr fun p _ => congrArg cred (launch_r p.1 p.2 c))

/-! ## The kernel's one point -/

def start (c : Dev nD) : sProp 𝕄 := iprop((∃ K, Recs m K ∗ mine (F := F) c) ∗ creds (F := F) c ∗ args m c)
def Φ₀ (c : Dev nD) : sProp 𝕄 := iprop(start m c ∗ rests (F := F) c)
def Φ₁ (c : Dev nD) : sProp 𝕄 := iprop((semVal (barCell c) 0 ∗ args m c) ∗ (locals (F := F) c ∗ zeros (F := F) c) ∗ rests (F := F) c)

def dats (_ : Fin 1) (c : Dev nD) : Dat τ (Elt F) Unit ℕ UU ℕ cfg0 c where
  A w := m ((cfg0.win w).arr.view.loc (c : Thread nD τ))
  after w _ := match w with | ⟨0, _⟩ => outT m
  Φ t := match t with | ⟨0, _⟩ => Φ₀ m c | ⟨_ + 1, _⟩ => Φ₁ m c
  q _ := fullShare
  owed t := match t with | ⟨0, _⟩ => O₀ c | ⟨_ + 1, _⟩ => 0

theorem owed_end (c : Dev nD) : owed c (fun _ => 6) 3 = 0 := by
  show ringO c (fun _ => 6) + 0 = 0
  rw [add_zero]
  unfold ringO laneO
  exact Finset.sum_eq_zero fun l _ => Finset.sum_eq_zero fun t _ => if_neg (show ¬ 6 ≤ t.val from by omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc ∗ (∃ d, stg c cc0_stg0_0 ((dats m 0 c).before (0 : Fin 1) t0_0 d)))
def bodyPost (c : Dev nD) : sProp 𝕄 :=
  iprop(Φ₁ m c ∗ (dats m 0 c).owesAt () t0_0.succ ∗ stg c cc0_stg0_0 (outT m))

theorem body_enter (c : Dev nD) : bodyPre m c ⊢ iprop(∃ K, St m K c σ₀ (fun _ => 0) 0) := by
  unfold bodyPre Φ₀ start mine Dat.owesAt Pipeline.owesWithin
  rw [show (dats m 0 c).owed t0_0.castSucc = O₀ c from rfl]
  iintro ⟨⟨⟨⟨%K, HR, Hm⟩, Hc, Ha⟩, Hr⟩, ⟨%W, %hW, HO⟩, ⟨%d, %f, %hf, Hs⟩⟩
  iexists K
  iapply (enter m K c)
  isplitl [HR]; · iexact HR
  isplitl [HO]; · (iexists W; iexact HO)
  isplitl [Hm]; · iexact Hm
  isplitl [Hc]; · iexact Hc
  isplitl [Ha]; · iexact Ha
  isplitl [Hr]; · iexact Hr
  iexists f; iexact Hs

theorem body_leave (K : Dev nD × CIx → ℕ) (c : Dev nD) : St m K c σ₁ (fun _ => 6) 3 ⊢ bodyPost m c := by
  refine (leave m K c).trans ?_
  unfold bodyPost Φ₁ Dat.owesAt Pipeline.owesWithin
  rw [show (dats m 0 c).owed t0_0.succ = 0 from rfl, owed_end]
  iintro ⟨⟨%W, HO⟩, ⟨Hl, Hz, HB⟩, Ha, Hr, Hs⟩
  isplitl [Hl Hz HB Ha Hr]
  · isplitl [HB Ha]; · isplitl [HB] <;> iassumption
    isplitl [Hl Hz]; · isplitl [Hl] <;> iassumption
    iexact Hr
  isplitl [HO]
  · iexists W
    isplitr; · ipureintro; exact fun _ _ => Or.inl trivial
    iexact HO
  · iexists _; isplitr; · (ipureintro; rfl)
    iexact Hs

set_option maxRecDepth 40000 in
theorem body_obligation (c : Dev nD) : BodyObligation (dats (F := F) m 0 c) (defs₀ (F := F)) 𝒱₀ () Set.univ := fun t => by
  rw [fin_N0 t, bigSep_W0, bigSep_W0]
  simp only [owns_whole_eq]
  show bodyPre m c ⊢ W c (cc0_body (F := F)
    (Memref.whole main_arg0) (Memref.isWhole_whole _) (Memref.whole main_arg1) (Memref.isWhole_whole _)
    (Memref.whole cc0_stg0_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 (Memref.whole cc0_scratch6) (Memref.isWhole_whole _)
    (Memref.whole cc0_scratch7) (Memref.isWhole_whole _)
    cc0_scratch8 cc0_scratch9 cc0_scratch10 cc0_scratch11 cc0_scratch12 cc0_scratch13 cc0_scratch14 cc0_scratch15) (fun _ => bodyPost m c)
  refine (body_enter m c).trans ?_
  iintro ⟨%K, H⟩
  iapply ((body_steps m K c).trans (wp_mono frame _ Set.univ fun _ => body_leave m K c))
  iexact H

/-! ## The run -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  iintro ⟨Ha, Hlev, Hcr, -, HG⟩
  ihave Hc := (creds_intro (F := F) c) $$ Hcr
  ihave Ha := (Entails.of_eq (unscopedRest0_eq c (fun b => m ((c : Thread nD τ).loc b)))) $$ Ha
  imodintro
  unfold start G' recs0 Recs args
  icases HG with ⟨%K, ⟨HI, HR⟩, Hm⟩
  isplitl
  · isplitl [HI HR Hlev Hm]
    · iexists K
      isplitl [HI HR Hlev]
      · isplitl [HI]; · iexact HI
        isplitl [HR] <;> iassumption
      · iexact Hm
    isplitl [Hc]; · iexact Hc
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀ rests
  iintro ⟨Hs, -, Hr⟩
  isplitl [Hs]; · iexact Hs
  iapply (Entails.of_eq (scopedRest0_eq c)); iexact Hr

theorem phi1_exit (c : Dev nD) :
    (dats m 0 c).Φ (Fin.last cfg0.N) ⊢ iprop((unscopedSems0 c ∗ args m c) ∗ Pipeline.ownSems0 osem c ∗ Pipeline.scopedRest cfg0.spec c) := by
  rw [show (dats m 0 c).Φ (Fin.last cfg0.N) = Φ₁ m c from rfl, ownSems0_eq, unscopedSems0_eq]
  unfold Φ₁ rests
  iintro ⟨HB, Ho, Hr⟩
  isplitl [HB]; · iexact HB
  isplitl [Ho]; · iexact Ho
  iapply (Entails.of_eq (scopedRest0_eq c).symm); iexact Hr

theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · exact mayWait_of c (.dma q) (fun _ => 0) 0 0 (lv_local q c hq) (fun _ => Nat.one_pos) (fun _ => by omega)
  · rw [MayWait_zero]; iintro -; iempintro
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What is read off a final memory. -/
def Post : PUnit × MemSt nD τ sig (Elt F) → Prop := fun r =>
  (∀ c : Dev nD, r.2.mem ((c : Thread nD τ).loc main_v1) = outT m
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

theorem args_read (c : Dev nD) (s' : Phys nD τ sig (Elt F)) : iprop(args m c ∗ SI s') ⊢ (iprop(⌜s'.mem.mem ((c : Thread nD τ).loc main_arg0) = m ((c : Thread nD τ).loc main_arg0)
      ∧ s'.mem.mem ((c : Thread nD τ).loc main_arg1) = m ((c : Thread nD τ).loc main_arg1)⌝ ∗ SI s') : sProp 𝕄) := by
  unfold args
  iintro ⟨⟨H0, H1⟩, HSI⟩
  icombine HSI H0 gives %h0
  icombine HSI H1 gives %h1
  isplitr
  · ipureintro; exact ⟨Buf.eq_of_forall_mem_univ h0, Buf.eq_of_forall_mem_univ h1⟩
  · iexact HSI

theorem out_final (c : Dev nD) : (dats m 0 c).arrAt (0 : Fin 1) cfg0.N = outT m :=
  (dats m 0 c).arrAt_eq_of_after_last 0 t0_0 (by decide +kernel) _ fun _ => rfl

set_option maxRecDepth 8000 in
/-- Every weakly fair run ends, with the result finished on every device, the operands unchanged and every semaphore at zero. -/
theorem run_main : θ_run defs (onTc (τ := τ) (main (F := F))) ⟨m, fun _ => 0, ρ⟩ (Post m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (show (BI.own (embR (initOf ringCells ringToks, (1 : Counters))) : sProp 𝕄) ⊢ BI.own (ER (initOf ringCells ringToks)) from
        (own_pair_emb _ _ _).trans (show _ ∗ _ ⊢ _ from by iintro ⟨H, -⟩; iexact H)) $$ HX
      imod (fund_ring m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m) (hout := phi1_exit m)
    (QY := fun c s => (s.mem ((c : Thread nD τ).loc main_arg0) = m ((c : Thread nD τ).loc main_arg0) ∧ s.mem ((c : Thread nD τ).loc main_arg1) = m ((c : Thread nD τ).loc main_arg1))
      ∧ ∀ sm : SemLoc sig, sm.isScoped .tc = false → s.sem ((c.tc : Thread nD τ), sm) = 0)
    (hY := fun c s' => by
      iintro ⟨⟨Hu, Ha⟩, -, HSI⟩
      ihave H := (args_read m c s') $$ [Ha HSI]
      · isplitl [Ha] <;> iassumption
      icases H with ⟨%ha, HSI⟩
      imod (Pipeline.unscopedSems0_read (X := unscopedSems0 c) (c := c) fupd_intro s') $$ [Hu HSI] with ⟨%hs, HSI⟩
      · isplitl [Hu] <;> iassumption
      imodintro
      isplitr; · ipureintro; exact ⟨ha, hs⟩
      iexact HSI)
    (hQ := fun _ h hs => ⟨fun c => ⟨((h c).1 0).trans (out_final m c), (h c).2.2.1⟩, sem_eq_zero hs fun c => (h c).2.2.2⟩)

end Cert.KernelIdeal.Hand
-- ==== Proof.Value.lean ====
/-
# What the result is

Over the exact values the sum going round the ring is the sum of the four devices' products, and that is the product
of the whole operands.
-/
module

public import proofs.«01_k».proof.Proof.Cut
public import proofs.«01_k».proof.Proof.Gen.ReferenceIdeal
public import Idealize.ShloMosaic.Lib.MatmulPlain
public import Idealize.ShloMosaic.Lib.StackMember
public import Idealize.ShloMosaic.Lib.Layout
public import Idealize.ShloMosaic.PureOps.Ideal.Laws

@[expose] public section

noncomputable section

namespace Cert.KernelIdeal.Hand

open Cert.KernelIdeal Cert.KernelIdeal.Gen
open Idealize.ShloMosaic
open Idealize.ShloMosaic.TcCoe Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

/-! ## Adding up -/

/-- Four devices, counted upstream from `j` on lane `l`, are all four. -/
theorem sum_around {α : Type} [AddCommMonoid α] (l : Lane) (j : Dev nD) (f : Dev nD → α) :
    f j + (f (up l j) + (f (up l (up l j)) + f (up l (up l (up l j))))) = ∑ d, f d := by
  have h : Function.Bijective (fun k : Fin 4 => bk l j k.val) := by revert l j; decide +kernel
  have h0 : bk l j 0 = j := bk_zero l j
  have h2 : bk l j 2 = up l (up l j) := by revert l j; decide +kernel
  have h3 : bk l j 3 = up l (up l (up l j)) := by revert l j; decide +kernel
  rw [← h.sum_comp f, Fin.sum_univ_four, ← h3, ← h2]
  show _ = f (bk l j 0) + f (bk l j 1) + f (bk l j 2) + f (bk l j 3)
  rw [h0, add_assoc, add_assoc]

/-- A sum over all the columns, device by device. -/
theorem sum_blocks {α : Type} [AddCommMonoid α] (f : Fin 6144 → α) :
    (∑ d : Fin 4, ∑ k : Fin 1536, f ⟨d.val * 1536 + k.val, by omega⟩) = ∑ x, f x := by
  rw [← Fintype.sum_prod_type']
  refine Fintype.sum_equiv (finProdFinEquiv (m := 4) (n := 1536)) _ _ fun p => congrArg f (Fin.ext ?_)
  show p.1.val * 1536 + p.2.val = p.2.val + 1536 * p.1.val
  omega

/-- Taking a unit axis on and off again changes nothing. -/
theorem shapeCast_lift1 {s s' : Shape} {α : Type} (h : s.numel = s'.numel) (h' : s'.ShapeCasts s) (X : s.Idx → α) : shapeCast s (lift1 h X) h' = X := by
  funext i
  show X ((Shape.reshapeEquiv h).symm (Shape.reshapeEquiv h' i)) = X i
  exact congrArg X ((Shape.reshapeEquiv h).symm_apply_apply i)

theorem shapeCast_same {s : Shape} {α : Type} (h : s.ShapeCasts s) (X : s.Idx → α) : shapeCast s X h = X :=
  funext fun i => congrArg X (Shape.reshapeEquiv_self h i)

/-! ## The kernel's values, entry by entry -/

variable (m : (ℓ : Loc nD τ sig) → Buf (Elt Ideal) ℓ)

/-- A device's part of either operand. -/
abbrev opA (d : Dev nD) : S3072x1536.Idx → EReal := m ((d : Thread nD τ).loc main_arg0)
abbrev opB (d : Dev nD) : S1536x3072.Idx → EReal := m ((d : Thread nD τ).loc main_arg1)

theorem aRd_eq (d : Dev nD) (q : Fin 8) : aRd (F := Ideal) m d q = aSt (F := Ideal) m d q := by
  unfold aRd k0_pay1
  simp only [shapeCast_lift1]
  exact shapeCast_same _ _
theorem bVal_eq (d : Dev nD) (l : Lane) : bVal (F := Ideal) m d l = bSt (F := Ideal) m d l := by
  unfold bVal k0_pay3
  simp only [shapeCast_lift1]
  exact shapeCast_same _ _

theorem aVal_apply (d j : Dev nD) (r : Fin 768) (k : Fin 1536) :
    aVal (F := Ideal) m d j (ix2 r k) = opA m d (ix2 ⟨768 * j.val + r.val, by have : j.val < 4 := j.isLt; omega⟩ k) := by
  have h : aVal (F := Ideal) m d j (ix2 r k) = abfT (F := Ideal) m d ((rowRect j).emb (ix2 r k)) := rfl
  rw [h]
  unfold abfT
  rw [aRd_eq]
  unfold aSt
  refine congrArg (opA m d) (funext fun a => Fin.ext ?_)
  match a with
  | ⟨0, _⟩ =>
    show 384 * ((768 * j.val + 1 * r.val) / 384) + 1 * ((768 * j.val + 1 * r.val) % 384) = 768 * j.val + r.val
    omega
  | ⟨1, _⟩ =>
    show 0 + 1 * (0 + 1 * k.val) = k.val
    omega

theorem bVal_apply (d : Dev nD) (l : Lane) (k : Fin 1536) (y : Fin 384) :
    bVal (F := Ideal) m d l (ix2 k y) = opB m d (ix2 k ⟨384 * l.val + y.val, by have : l.val < 8 := l.isLt; omega⟩) := by
  rw [bVal_eq]
  unfold bSt
  refine congrArg (opB m d) (funext fun a => Fin.ext ?_)
  match a with
  | ⟨0, _⟩ => show 0 + 1 * k.val = k.val; omega
  | ⟨1, _⟩ => show 384 * l.val + 1 * y.val = 384 * l.val + y.val; omega

/-- A device's own product is the product of its columns and rows. -/
theorem dVal_apply (l : Lane) (d j : Dev nD) (r : Fin 768) (y : Fin 384) : dVal (F := Ideal) m l d j (ix2 r y)
    = ∑ k : Fin 1536, opA m d (ix2 ⟨768 * j.val + r.val, by have : j.val < 4 := j.isLt; omega⟩ k)
        * opB m d (ix2 k ⟨384 * l.val + y.val, by have : l.val < 8 := l.isLt; omega⟩) := by
  have h : dVal (F := Ideal) m l d j (ix2 r y)
      = FloatOps.matmul (F := Ideal) (φ₁ := .bf16) (φ₂ := .bf16) (DotDims.plain 768 1536 384) none (aVal (F := Ideal) m d j) (bVal (F := Ideal) m d l) (constant S768x384 .f32 0x00000000#32) (ix2 r y) := rfl
  rw [h, Ideal.matmul_plain_apply]
  rw [show (constant S768x384 .f32 0x00000000#32 : FVec Ideal S768x384 .f32) (ix2 r y) = Ideal.ofBits .f32 0x00000000#32 from rfl, Ideal.ofBits_zero_f32, zero_add]
  exact Finset.sum_congr rfl fun k _ => by rw [aVal_apply, bVal_apply]

theorem sVal_step (l : Lane) (t : ℕ) (d j : Dev nD) (i : S768x384.Idx) :
    sVal (F := Ideal) m l (t + 1) d j i = dVal (F := Ideal) m l d j i + sVal (F := Ideal) m l t (up l d) j i := by
  show k0_pay29 _ _ i = _
  unfold k0_pay29
  simp only [shapeCast_lift1]
  rw [ValueIdx.addf_apply, shapeCast_same]

/-- The finished block is the sum of the four devices' products. -/
theorem fVal_apply (l : Lane) (j : Dev nD) (i : S768x384.Idx) : fVal (F := Ideal) m l j i = ∑ d : Dev nD, dVal (F := Ideal) m l d j i := by
  unfold fVal
  rw [sVal_step, sVal_step, sVal_step, ← sum_around l j fun d => dVal (F := Ideal) m l d j i]
  rfl

/-! ## The two programs agree -/

open Cert.ReferenceIdeal in
/-- The whole operands' product. -/
abbrev whole (A : S3072x6144.Idx → EReal) (B : S6144x3072.Idx → EReal) : Cert.ReferenceIdeal.S3072x3072.Idx → EReal :=
  Host.dotGeneral (F := Ideal) (φ₁ := .f32) (φ₂ := .f32) dot_S3072x6144_S6144x3072_S3072x3072_1_0_0_1_n_n none A B

theorem whole_apply (A : Cert.ReferenceIdeal.S3072x6144.Idx → EReal) (B : Cert.ReferenceIdeal.S6144x3072.Idx → EReal) (a b : Fin 3072) :
    whole A B (ix2 a b) = ∑ x : Fin 6144, A (ix2 a x) * B (ix2 x b) :=
  StackMember.dotGeneral_plain_apply (φ₁ := .f32) (φ₂ := .f32) none A B a b

/-- What every device's result ends holding is the product of the whole operands. -/
theorem outT_eq (A : Cert.ReferenceIdeal.S3072x6144.Idx → EReal) (B : Cert.ReferenceIdeal.S6144x3072.Idx → EReal)
    (hA : ∀ d : Dev nD, opA m d = Layout.block ⟨2, ![3072, 1536]⟩ ⟨2, ![3072, 6144]⟩ 1 4 d A)
    (hB : ∀ d : Dev nD, opB m d = Layout.block ⟨2, ![1536, 3072]⟩ ⟨2, ![6144, 3072]⟩ 0 4 d B) :
    outT (F := Ideal) m = whole A B := by
  funext i
  obtain ⟨a, b, rfl⟩ : ∃ (a b : Fin 3072), i = ix2 a b := ⟨i 0, i 1, eq_ix2 i⟩
  rw [whole_apply, ← sum_blocks]
  have hi : inBlock (ix2 a b) = ix2 (⟨a.val % 768, Nat.mod_lt _ (by decide)⟩ : Fin 768) (⟨b.val % 384, Nat.mod_lt _ (by decide)⟩ : Fin 384) := by
    funext x
    match x with
    | ⟨0, _⟩ => rfl
    | ⟨1, _⟩ => rfl
  unfold outT
  rw [hi, fVal_apply]
  refine Finset.sum_congr rfl fun d _ => ?_
  rw [dVal_apply]
  refine Finset.sum_congr rfl fun k _ => ?_
  rw [hA, hB]
  refine congrArg₂ (· * ·) (congrArg A (funext fun x => Fin.ext ?_)) (congrArg B (funext fun x => Fin.ext ?_))
  · match x with
    | ⟨0, _⟩ => show 768 * (a.val / 768) + a.val % 768 = a.val; omega
    | ⟨1, _⟩ => rfl
  · match x with
    | ⟨0, _⟩ => rfl
    | ⟨1, _⟩ => show 384 * (b.val / 384) + b.val % 384 = b.val; omega

end Cert.KernelIdeal.Hand
-- ==== Proof.lean ====
/-
# The certificate

The kernel's run is proved once, for any float values (Proof/Launch.lean `run_main`); at `Bits` it is the kernel's frame,
at `Ideal` the idealization's, and with the value equation (Proof/Value.lean `outT_eq`) the algebraic claim.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

open Cert.KernelIdeal in
/-- The frame, for any float values. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (Cert.KernelIdeal.Hand.run_main m ρ)

/-- The kernel's program is the idealization's text. -/
theorem body_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun _ => ?_)
  match l with
  | ⟨0, _⟩ => rfl
theorem defs_eq {F : FTy → Type} [FloatOps F] : Cert.Kernel.defs (F := F) = Cert.KernelIdeal.defs (F := F) :=
  congrArg (Pipeline.defs Cert.KernelIdeal.pcfgs) body_eq

theorem frame_kernel : Cert.quiescent_Kernel := fun m ρ _ =>
  Eq.mpr (congrArg (fun D => θ_run D (onTc (τ := Cert.KernelIdeal.τ) (Cert.KernelIdeal.main (F := Bits))) _ _) defs_eq) (frame_any (F := Bits) m ρ)
theorem frame_ideal : Cert.quiescent_KernelIdeal := fun m ρ _ => frame_any (F := Ideal) m ρ
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both programs end with the whole operands' product. -/
theorem algebraic : Cert.algebraic_KernelIdeal_ReferenceIdeal := fun m ρ m' ρ' _ hargs =>
  ⟨Cert.KernelIdeal.Hand.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Cert.KernelIdeal.Hand.outT_eq m _ _ (fun d => (hargs d).1) (fun d => (hargs d).2)), (h.1 c).2⟩)
      (Cert.KernelIdeal.Hand.run_main (F := Ideal) m ρ),
    (θ_run Cert.ReferenceIdeal.defs _ _).mono (fun _ h => ⟨(h 0).1, (h 0).2⟩) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
